-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_pre [hPre_pre : Cert.Pre_pre.Facts] (m : (ℓ : Loc Cert.KernelIdeal.nD Cert.KernelIdeal.τ Cert.KernelIdeal.sig) → Buf (Elt Ideal) ℓ) : Prop :=
  ∀ c : Dev Cert.KernelIdeal.nD,
    (Cert.Pre_pre.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_pre [hPre_pre : Cert.Pre_pre.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_pre.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_pre [hKernelIdeal : Cert.KernelIdeal.Facts] [hPre_pre : Cert.Pre_pre.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_pre m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_pre [hReferenceIdeal : Cert.ReferenceIdeal.Facts] [hPre_pre : Cert.Pre_pre.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_pre m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_pre [hKernelIdeal : Cert.KernelIdeal.Facts] [hReferenceIdeal : Cert.ReferenceIdeal.Facts] [hPre_pre : Cert.Pre_pre.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_pre m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v23)) (v1 : (c : Dev Cert.KernelIdeal.nD) → Buf (Elt Ideal) ((c.tc : Thread Cert.KernelIdeal.nD Cert.KernelIdeal.τ).loc Cert.KernelIdeal.main_v25)) (v2 : (c : Dev Cert.KernelIdeal.nD) → Buf (Elt Ideal) ((c.tc : Thread Cert.KernelIdeal.nD Cert.KernelIdeal.τ).loc Cert.KernelIdeal.main_v27)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v23) = v0 c
          ∧ r.2.mem ((c.tc : Thread Cert.KernelIdeal.nD Cert.KernelIdeal.τ).loc Cert.KernelIdeal.main_v25) = v1 c
          ∧ r.2.mem ((c.tc : Thread Cert.KernelIdeal.nD Cert.KernelIdeal.τ).loc Cert.KernelIdeal.main_v27) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v105) = v0 c
          ∧ r.2.mem ((c.tc : Thread Cert.ReferenceIdeal.nD Cert.ReferenceIdeal.τ).loc Cert.ReferenceIdeal.main_v113) = v1 c
          ∧ r.2.mem ((c.tc : Thread Cert.ReferenceIdeal.nD Cert.ReferenceIdeal.τ).loc Cert.ReferenceIdeal.main_v121) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_pre : Cert.Pre_pre.Facts),
    quiescent_Kernel (hKernel := hKernel)
    ∧ quiescent_KernelIdeal (hKernelIdeal := hKernelIdeal)
    ∧ quiescent_KernelIdeal_pre_pre (hKernelIdeal := hKernelIdeal) (hPre_pre := hPre_pre)
    ∧ quiescent_ReferenceIdeal (hReferenceIdeal := hReferenceIdeal)
    ∧ quiescent_ReferenceIdeal_pre_pre (hReferenceIdeal := hReferenceIdeal) (hPre_pre := hPre_pre)
    ∧ preserves_Kernel_KernelIdeal
    ∧ algebraic_KernelIdeal_ReferenceIdeal_pre_pre (hKernelIdeal := hKernelIdeal) (hReferenceIdeal := hReferenceIdeal) (hPre_pre := hPre_pre)
-- ==== Pre_pre.lean ====
abbrev S20000x4 : Shape := ⟨2, ![20000, 4]⟩
abbrev S20000 : Shape := ⟨1, ![20000]⟩
abbrev S_ : Shape := ⟨0, ![]⟩
abbrev S20000x1 : Shape := ⟨2, ![20000, 1]⟩

class Facts : Prop where
  bcast_S_S20000x4 : S_.BroadcastsInDim S20000x4 (![] : Fin 0 → Fin S20000x4.rank)
  reducesTo_S20000x4_S_d0_1 : S20000x4.ReducesTo [0, 1] S_
  h_S_ : 0 < S_.numel
  slices_S20000x4_S20000x1_0_0 : S20000x4.Slices ![0, 0] S20000x1
  shapeCasts_S20000x1_S20000 : S20000x1.ShapeCasts S20000
  slices_S20000x4_S20000x1_0_2 : S20000x4.Slices ![0, 2] S20000x1
  reducesTo_S20000_S_d0 : S20000.ReducesTo [0] S_
  slices_S20000x4_S20000x1_0_1 : S20000x4.Slices ![0, 1] S20000x1
  slices_S20000x4_S20000x1_0_3 : S20000x4.Slices ![0, 3] S20000x1
  bcast_S_S20000 : S_.BroadcastsInDim S20000 (![] : Fin 0 → Fin S20000.rank)

variable [Facts]

def fn_part1 {F : FTy → Type} [FloatOps F] (main_arg1 : FVec F S20000 .f32) (main_arg2 : IVec S20000 32) (main_v17 : IVec S_ 1) (main_v18 : FVec F S_ .f32) : IVec S_ 1 :=
  let main_cst_3 : FVec F S_ .f32 := constant S_ .f32 0x00000000#32
  let main_v19 : IVec S_ 1 := cmpf .oge main_v18 main_cst_3
  let main_v20 : IVec S_ 1 := andi main_v17 main_v19
  let main_cst_4 : FVec F S_ .f32 := constant S_ .f32 0x00000000#32
  let main_v21 : FVec F S20000 .f32 := broadcastInDim S20000 ![] bcast_S_S20000 main_cst_4
  let main_v22 : IVec S20000 1 := cmpf .oge main_arg1 main_v21
  let main_c_5 : IVec S_ 1 := constantI S_ 1 1#1
  let main_v23 : IVec S_ 1 := (fun x v => Host.reduce IntOp.andi x v reducesTo_S20000_S_d0 h_S_) main_v22 main_c_5
  let main_v24 : IVec S_ 1 := andi main_v20 main_v23
  let main_c_6 : IVec S_ 32 := constantI S_ 32 0#32
  let main_v25 : IVec S20000 32 := broadcastInDim S20000 ![] bcast_S_S20000 main_c_6
  let main_v26 : IVec S20000 1 := cmpi .sge main_arg2 main_v25
  let main_c_7 : IVec S_ 1 := constantI S_ 1 1#1
  let main_v27 : IVec S_ 1 := (fun x v => Host.reduce IntOp.andi x v reducesTo_S20000_S_d0 h_S_) main_v26 main_c_7
  let main_v28 : IVec S_ 1 := andi main_v24 main_v27
  main_v28

def fn {F : FTy → Type} [FloatOps F] (main_arg0 : FVec F S20000x4 .f32) (main_arg1 : FVec F S20000 .f32) (main_arg2 : IVec S20000 32) : IVec S_ 1 :=
  let main_v0 : FVec F S20000x4 .f32 := Host.absf main_arg0
  let main_cst : FVec F S_ .f32 := constant S_ .f32 0x7F800000#32
  let main_v1 : FVec F S20000x4 .f32 := broadcastInDim S20000x4 ![] bcast_S_S20000x4 main_cst
  let main_v2 : IVec S20000x4 1 := cmpf .olt main_v0 main_v1
  let main_c : IVec S_ 1 := constantI S_ 1 1#1
  let main_v3 : IVec S_ 1 := (fun x v => Host.reduce IntOp.andi x v reducesTo_S20000x4_S_d0_1 h_S_) main_v2 main_c
  let main_v4 : FVec F S20000x1 .f32 := (extractStridedSlice S20000x1 ![0, 0] · slices_S20000x4_S20000x1_0_0) main_arg0
  let main_v5 : FVec F S20000 .f32 := shapeCast S20000 main_v4 shapeCasts_S20000x1_S20000
  let main_v6 : FVec F S20000x1 .f32 := (extractStridedSlice S20000x1 ![0, 2] · slices_S20000x4_S20000x1_0_2) main_arg0
  let main_v7 : FVec F S20000 .f32 := shapeCast S20000 main_v6 shapeCasts_S20000x1_S20000
  let main_v8 : IVec S20000 1 := cmpf .olt main_v5 main_v7
  let main_c_0 : IVec S_ 1 := constantI S_ 1 1#1
  let main_v9 : IVec S_ 1 := (fun x v => Host.reduce IntOp.andi x v reducesTo_S20000_S_d0 h_S_) main_v8 main_c_0
  let main_v10 : IVec S_ 1 := andi main_v3 main_v9
  let main_v11 : FVec F S20000x1 .f32 := (extractStridedSlice S20000x1 ![0, 1] · slices_S20000x4_S20000x1_0_1) main_arg0
  let main_v12 : FVec F S20000 .f32 := shapeCast S20000 main_v11 shapeCasts_S20000x1_S20000
  let main_v13 : FVec F S20000x1 .f32 := (extractStridedSlice S20000x1 ![0, 3] · slices_S20000x4_S20000x1_0_3) main_arg0
  let main_v14 : FVec F S20000 .f32 := shapeCast S20000 main_v13 shapeCasts_S20000x1_S20000
  let main_v15 : IVec S20000 1 := cmpf .olt main_v12 main_v14
  let main_c_1 : IVec S_ 1 := constantI S_ 1 1#1
  let main_v16 : IVec S_ 1 := (fun x v => Host.reduce IntOp.andi x v reducesTo_S20000_S_d0 h_S_) main_v15 main_c_1
  let main_v17 : IVec S_ 1 := andi main_v10 main_v16
  let main_cst_2 : FVec F S_ .f32 := constant S_ .f32 0xFF800000#32
  let main_v18 : FVec F S_ .f32 := (fun x v => Host.reduce FloatOps.maximumf x v reducesTo_S20000x4_S_d0_1 h_S_) main_arg0 main_cst_2
  fn_part1 (F := F) main_arg1 main_arg2 main_v17 main_v18
-- ==== Kernel.lean ====
abbrev S20000x4 : Shape := ⟨2, ![20000, 4]⟩
abbrev S20000 : Shape := ⟨1, ![20000]⟩
abbrev S20000x1 : Shape := ⟨2, ![20000, 1]⟩
abbrev S_ : Shape := ⟨0, ![]⟩
abbrev S20480 : Shape := ⟨1, ![20480]⟩
abbrev S160x128 : Shape := ⟨2, ![160, 128]⟩
abbrev S8x128 : Shape := ⟨2, ![8, 128]⟩
abbrev S1x160x128 : Shape := ⟨3, ![1, 160, 128]⟩
abbrev S1 : Shape := ⟨1, ![1]⟩
abbrev S1x1x1 : Shape := ⟨3, ![1, 1, 1]⟩
abbrev S1x128 : Shape := ⟨2, ![1, 128]⟩
abbrev S4x100 : Shape := ⟨2, ![4, 100]⟩
abbrev S100x4 : Shape := ⟨2, ![100, 4]⟩
abbrev S1x100 : Shape := ⟨2, ![1, 100]⟩
abbrev S100 : Shape := ⟨1, ![100]⟩

abbrev nBuf : Space → Nat
  | .hbm => 43
  | .vmem => 7
  | .smem => 0
  | _ => 0

abbrev bufTy : (tb : Table) → Fin (tcTables nBuf tb) → BufTy
  | .hbm, ⟨0, _⟩ => ⟨S20000x4, .f32⟩
  | .hbm, ⟨1, _⟩ => ⟨S20000, .f32⟩
  | .hbm, ⟨2, _⟩ => ⟨S20000, .i32⟩
  | .hbm, ⟨3, _⟩ => ⟨S20000, .f32⟩
  | .hbm, ⟨4, _⟩ => ⟨S20000x1, .f32⟩
  | .hbm, ⟨5, _⟩ => ⟨S20000, .f32⟩
  | .hbm, ⟨6, _⟩ => ⟨S_, .i32⟩
  | .hbm, ⟨7, _⟩ => ⟨S_, .f32⟩
  | .hbm, ⟨8, _⟩ => ⟨S20480, .f32⟩
  | .hbm, ⟨9, _⟩ => ⟨S160x128, .f32⟩
  | .hbm, ⟨10, _⟩ => ⟨S20000x1, .f32⟩
  | .hbm, ⟨11, _⟩ => ⟨S20000, .f32⟩
  | .hbm, ⟨12, _⟩ => ⟨S_, .i32⟩
  | .hbm, ⟨13, _⟩ => ⟨S_, .f32⟩
  | .hbm, ⟨14, _⟩ => ⟨S20480, .f32⟩
  | .hbm, ⟨15, _⟩ => ⟨S160x128, .f32⟩
  | .hbm, ⟨16, _⟩ => ⟨S20000x1, .f32⟩
  | .hbm, ⟨17, _⟩ => ⟨S20000, .f32⟩
  | .hbm, ⟨18, _⟩ => ⟨S_, .i32⟩
  | .hbm, ⟨19, _⟩ => ⟨S_, .f32⟩
  | .hbm, ⟨20, _⟩ => ⟨S20480, .f32⟩
  | .hbm, ⟨21, _⟩ => ⟨S160x128, .f32⟩
  | .hbm, ⟨22, _⟩ => ⟨S20000x1, .f32⟩
  | .hbm, ⟨23, _⟩ => ⟨S20000, .f32⟩
  | .hbm, ⟨24, _⟩ => ⟨S_, .i32⟩
  | .hbm, ⟨25, _⟩ => ⟨S_, .f32⟩
  | .hbm, ⟨26, _⟩ => ⟨S20480, .f32⟩
  | .hbm, ⟨27, _⟩ => ⟨S160x128, .f32⟩
  | .hbm, ⟨28, _⟩ => ⟨S_, .i32⟩
  | .hbm, ⟨29, _⟩ => ⟨S_, .f32⟩
  | .hbm, ⟨30, _⟩ => ⟨S20480, .f32⟩
  | .hbm, ⟨31, _⟩ => ⟨S160x128, .f32⟩
  | .hbm, ⟨32, _⟩ => ⟨S_, .i32⟩
  | .hbm, ⟨33, _⟩ => ⟨S_, .f32⟩
  | .hbm, ⟨34, _⟩ => ⟨S20480, .f32⟩
  | .hbm, ⟨35, _⟩ => ⟨S160x128, .f32⟩
  | .hbm, ⟨36, _⟩ => ⟨S8x128, .f32⟩
  | .hbm, ⟨37, _⟩ => ⟨S4x100, .f32⟩
  | .hbm, ⟨38, _⟩ => ⟨S100x4, .f32⟩
  | .hbm, ⟨39, _⟩ => ⟨S1x100, .f32⟩
  | .hbm, ⟨40, _⟩ => ⟨S100, .f32⟩
  | .hbm, ⟨41, _⟩ => ⟨S1x100, .f32⟩
  | .hbm, ⟨42, _⟩ => ⟨S100, .f32⟩
  | .local _ .vmem, ⟨0, _⟩ => ⟨S160x128, .f32⟩
  | .local _ .vmem, ⟨1, _⟩ => ⟨S160x128, .f32⟩
  | .local _ .vmem, ⟨2, _⟩ => ⟨S160x128, .f32⟩
  | .local _ .vmem, ⟨3, _⟩ => ⟨S160x128, .f32⟩
  | .local _ .vmem, ⟨4, _⟩ => ⟨S160x128, .f32⟩
  | .local _ .vmem, ⟨5, _⟩ => ⟨S160x128, .f32⟩
  | .local _ .vmem, ⟨6, _⟩ => ⟨S8x128, .f32⟩
  | _, _ => ⟨S20000x4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_c : Ref sig .tc := ⟨.hbm, 6, rfl⟩
abbrev main_call0_v0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_c_0 : Ref sig .tc := ⟨.hbm, 12, rfl⟩
abbrev main_call1_v0 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_c_1 : Ref sig .tc := ⟨.hbm, 18, rfl⟩
abbrev main_call2_v0 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_c_2 : Ref sig .tc := ⟨.hbm, 24, rfl⟩
abbrev main_call3_v0 : Ref sig .tc := ⟨.hbm, 25, rfl⟩
abbrev main_v15 : Ref sig .tc := ⟨.hbm, 26, rfl⟩
abbrev main_v16 : Ref sig .tc := ⟨.hbm, 27, rfl⟩
abbrev main_c_3 : Ref sig .tc := ⟨.hbm, 28, rfl⟩
abbrev main_call4_v0 : Ref sig .tc := ⟨.hbm, 29, rfl⟩
abbrev main_v17 : Ref sig .tc := ⟨.hbm, 30, rfl⟩
abbrev main_v18 : Ref sig .tc := ⟨.hbm, 31, rfl⟩
abbrev main_c_4 : Ref sig .tc := ⟨.hbm, 32, rfl⟩
abbrev main_call5_v0 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

@[reducible] def k0_t1_loop : Scf.Loop 32 :=
  let c0_i32 : BitVec 32 := 0#32
  let c100_i32 : BitVec 32 := 100#32
  let v45 : BitVec 32 := Scalar.addi c0_i32 c100_i32
  let c1_i32 : BitVec 32 := 1#32
  ⟨c0_i32, v45, c1_i32⟩
abbrev stage0_0 : Fin 1 → Memref sig .tc .vmem S160x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S160x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S160x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S160x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S160x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S160x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S8x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== ReferenceIdeal.lean ====
abbrev S20000x4 : Shape := ⟨2, ![20000, 4]⟩
abbrev S20000 : Shape := ⟨1, ![20000]⟩
abbrev S_ : Shape := ⟨0, ![]⟩
abbrev S20000x1 : Shape := ⟨2, ![20000, 1]⟩
abbrev S1 : Shape := ⟨1, ![1]⟩
abbrev S1x20000 : Shape := ⟨2, ![1, 20000]⟩
abbrev S20000x20000 : Shape := ⟨2, ![20000, 20000]⟩
abbrev S100 : Shape := ⟨1, ![100]⟩
abbrev S100x1 : Shape := ⟨2, ![100, 1]⟩
abbrev S100x4 : Shape := ⟨2, ![100, 4]⟩

abbrev nBuf : Space → Nat
  | .hbm => 274
  | .vmem => 0
  | .smem => 0
  | _ => 0

abbrev hbmTy0_0 (i : Nat) : BufTy := match i % 128 with
  | 0 => ⟨S20000x4, .f32⟩
  | 1 => ⟨S20000, .f32⟩
  | 2 => ⟨S20000, .i32⟩
  | 3 => ⟨S20000, .f32⟩
  | 4 => ⟨S_, .f32⟩
  | 5 => ⟨S_, .f32⟩
  | 6 => ⟨S_, .f32⟩
  | 7 => ⟨S_, .f32⟩
  | 8 => ⟨S20000x1, .f32⟩
  | 9 => ⟨S20000x1, .f32⟩
  | 10 => ⟨S20000x1, .f32⟩
  | 11 => ⟨S20000x4, .f32⟩
  | 12 => ⟨S20000x4, .f32⟩
  | 13 => ⟨S20000, .f32⟩
  | 14 => ⟨S20000, .i32⟩
  | 15 => ⟨S20000, .f32⟩
  | 16 => ⟨S20000, .i32⟩
  | 17 => ⟨S_, .i32⟩
  | 18 => ⟨S20000, .i32⟩
  | 19 => ⟨S20000, .i1⟩
  | 20 => ⟨S_, .i32⟩
  | 21 => ⟨S20000, .i32⟩
  | 22 => ⟨S20000, .i32⟩
  | 23 => ⟨S20000, .i32⟩
  | 24 => ⟨S20000x1, .i32⟩
  | 25 => ⟨S20000x4, .f32⟩
  | 26 => ⟨S_, .i32⟩
  | 27 => ⟨S20000, .i32⟩
  | 28 => ⟨S20000, .i1⟩
  | 29 => ⟨S_, .i32⟩
  | 30 => ⟨S20000, .i32⟩
  | 31 => ⟨S20000, .i32⟩
  | 32 => ⟨S20000, .i32⟩
  | 33 => ⟨S20000x1, .i32⟩
  | 34 => ⟨S20000, .f32⟩
  | 35 => ⟨S_, .i32⟩
  | 36 => ⟨S20000, .i32⟩
  | 37 => ⟨S20000, .i1⟩
  | 38 => ⟨S_, .i32⟩
  | 39 => ⟨S20000, .i32⟩
  | 40 => ⟨S20000, .i32⟩
  | 41 => ⟨S20000, .i32⟩
  | 42 => ⟨S20000x1, .i32⟩
  | 43 => ⟨S20000, .f32⟩
  | 44 => ⟨S20000x1, .f32⟩
  | 45 => ⟨S20000, .f32⟩
  | 46 => ⟨S20000x1, .f32⟩
  | 47 => ⟨S20000, .f32⟩
  | 48 => ⟨S20000x1, .f32⟩
  | 49 => ⟨S20000, .f32⟩
  | 50 => ⟨S20000x1, .f32⟩
  | 51 => ⟨S20000, .f32⟩
  | 52 => ⟨S20000, .f32⟩
  | 53 => ⟨S20000, .f32⟩
  | 54 => ⟨S20000, .f32⟩
  | 55 => ⟨S_, .i1⟩
  | 56 => ⟨S20000, .i1⟩
  | 57 => ⟨S_, .i32⟩
  | 58 => ⟨S20000, .i32⟩
  | 59 => ⟨S_, .i32⟩
  | 60 => ⟨S_, .i32⟩
  | 61 => ⟨S20000, .f32⟩
  | 62 => ⟨S20000, .f32⟩
  | 63 => ⟨S20000, .f32⟩
  | 64 => ⟨S20000, .f32⟩
  | 65 => ⟨S20000, .f32⟩
  | 66 => ⟨S_, .i32⟩
  | 67 => ⟨S20000, .i1⟩
  | 68 => ⟨S20000, .i32⟩
  | 69 => ⟨S_, .i32⟩
  | 70 => ⟨S_, .i32⟩
  | 71 => ⟨S_, .i1⟩
  | 72 => ⟨S20000, .i32⟩
  | 73 => ⟨S_, .i32⟩
  | 74 => ⟨S_, .i32⟩
  | 75 => ⟨S20000, .i32⟩
  | 76 => ⟨S20000, .i32⟩
  | 77 => ⟨S_, .i32⟩
  | 78 => ⟨S_, .i32⟩
  | 79 => ⟨S_, .i1⟩
  | 80 => ⟨S_, .i1⟩
  | 81 => ⟨S_, .i1⟩
  | 82 => ⟨S_, .i32⟩
  | 83 => ⟨S_, .i1⟩
  | 84 => ⟨S_, .i32⟩
  | 85 => ⟨S_, .i32⟩
  | 86 => ⟨S_, .i32⟩
  | 87 => ⟨S1, .f32⟩
  | 88 => ⟨S_, .f32⟩
  | 89 => ⟨S20000, .f32⟩
  | 90 => ⟨S20000, .f32⟩
  | 91 => ⟨S_, .i32⟩
  | 92 => ⟨S_, .i1⟩
  | 93 => ⟨S_, .i32⟩
  | 94 => ⟨S_, .i32⟩
  | 95 => ⟨S_, .i32⟩
  | 96 => ⟨S1, .f32⟩
  | 97 => ⟨S_, .f32⟩
  | 98 => ⟨S20000, .f32⟩
  | 99 => ⟨S20000, .f32⟩
  | 100 => ⟨S_, .i32⟩
  | 101 => ⟨S_, .i1⟩
  | 102 => ⟨S_, .i32⟩
  | 103 => ⟨S_, .i32⟩
  | 104 => ⟨S_, .i32⟩
  | 105 => ⟨S1, .f32⟩
  | 106 => ⟨S_, .f32⟩
  | 107 => ⟨S20000, .f32⟩
  | 108 => ⟨S20000, .f32⟩
  | 109 => ⟨S_, .i32⟩
  | 110 => ⟨S_, .i1⟩
  | 111 => ⟨S_, .i32⟩
  | 112 => ⟨S_, .i32⟩
  | 113 => ⟨S_, .i32⟩
  | 114 => ⟨S1, .f32⟩
  | 115 => ⟨S_, .f32⟩
  | 116 => ⟨S20000, .f32⟩
  | 117 => ⟨S20000, .f32⟩
  | 118 => ⟨S20000, .f32⟩
  | 119 => ⟨S_, .f32⟩
  | 120 => ⟨S20000, .f32⟩
  | 121 => ⟨S20000, .f32⟩
  | 122 => ⟨S20000, .f32⟩
  | 123 => ⟨S_, .f32⟩
  | 124 => ⟨S20000, .f32⟩
  | 125 => ⟨S20000, .f32⟩
  | 126 => ⟨S20000, .f32⟩
  | 127 => ⟨S_, .i32⟩
  | _ => ⟨S20000x4, .f32⟩

abbrev hbmTy0_1 (i : Nat) : BufTy := match i % 128 with
  | 0 => ⟨S_, .i1⟩
  | 1 => ⟨S_, .i32⟩
  | 2 => ⟨S_, .i32⟩
  | 3 => ⟨S_, .i32⟩
  | 4 => ⟨S1, .f32⟩
  | 5 => ⟨S_, .f32⟩
  | 6 => ⟨S20000, .f32⟩
  | 7 => ⟨S20000, .f32⟩
  | 8 => ⟨S20000, .f32⟩
  | 9 => ⟨S20000, .f32⟩
  | 10 => ⟨S_, .f32⟩
  | 11 => ⟨S20000, .f32⟩
  | 12 => ⟨S20000, .i1⟩
  | 13 => ⟨S20000, .i1⟩
  | 14 => ⟨S20000, .i1⟩
  | 15 => ⟨S20000, .i1⟩
  | 16 => ⟨S20000, .i1⟩
  | 17 => ⟨S20000, .i32⟩
  | 18 => ⟨S20000, .i32⟩
  | 19 => ⟨S20000, .i1⟩
  | 20 => ⟨S_, .i32⟩
  | 21 => ⟨S_, .i32⟩
  | 22 => ⟨S_, .i32⟩
  | 23 => ⟨S_, .i32⟩
  | 24 => ⟨S_, .i32⟩
  | 25 => ⟨S_, .i32⟩
  | 26 => ⟨S20000, .i32⟩
  | 27 => ⟨S20000, .i32⟩
  | 28 => ⟨S20000, .i1⟩
  | 29 => ⟨S20000x1, .f32⟩
  | 30 => ⟨S20000x4, .f32⟩
  | 31 => ⟨S20000x4, .f32⟩
  | 32 => ⟨S_, .f32⟩
  | 33 => ⟨S20000x4, .f32⟩
  | 34 => ⟨S20000x1, .i32⟩
  | 35 => ⟨S20000x4, .f32⟩
  | 36 => ⟨S_, .f32⟩
  | 37 => ⟨S20000, .f32⟩
  | 38 => ⟨S20000x1, .i32⟩
  | 39 => ⟨S20000, .f32⟩
  | 40 => ⟨S1x20000, .i32⟩
  | 41 => ⟨S20000, .i32⟩
  | 42 => ⟨S20000x1, .i32⟩
  | 43 => ⟨S20000x20000, .i32⟩
  | 44 => ⟨S20000x20000, .i32⟩
  | 45 => ⟨S20000x20000, .i1⟩
  | 46 => ⟨S1x20000, .f32⟩
  | 47 => ⟨S_, .f32⟩
  | 48 => ⟨S_, .f32⟩
  | 49 => ⟨S20000x20000, .f32⟩
  | 50 => ⟨S20000x20000, .f32⟩
  | 51 => ⟨S20000x20000, .f32⟩
  | 52 => ⟨S_, .f32⟩
  | 53 => ⟨S20000, .f32⟩
  | 54 => ⟨S1x20000, .f32⟩
  | 55 => ⟨S_, .f32⟩
  | 56 => ⟨S_, .f32⟩
  | 57 => ⟨S20000x20000, .f32⟩
  | 58 => ⟨S20000x20000, .f32⟩
  | 59 => ⟨S20000x20000, .f32⟩
  | 60 => ⟨S_, .f32⟩
  | 61 => ⟨S20000, .f32⟩
  | 62 => ⟨S_, .f32⟩
  | 63 => ⟨S_, .f32⟩
  | 64 => ⟨S20000, .f32⟩
  | 65 => ⟨S20000, .f32⟩
  | 66 => ⟨S_, .f32⟩
  | 67 => ⟨S_, .f32⟩
  | 68 => ⟨S20000, .f32⟩
  | 69 => ⟨S20000, .f32⟩
  | 70 => ⟨S20000x1, .f32⟩
  | 71 => ⟨S20000x4, .f32⟩
  | 72 => ⟨S20000x4, .f32⟩
  | 73 => ⟨S_, .f32⟩
  | 74 => ⟨S_, .f32⟩
  | 75 => ⟨S20000, .f32⟩
  | 76 => ⟨S20000, .f32⟩
  | 77 => ⟨S20000, .f32⟩
  | 78 => ⟨S20000, .i32⟩
  | 79 => ⟨S20000, .f32⟩
  | 80 => ⟨S20000, .i32⟩
  | 81 => ⟨S100, .i32⟩
  | 82 => ⟨S_, .i32⟩
  | 83 => ⟨S100, .i32⟩
  | 84 => ⟨S100, .i1⟩
  | 85 => ⟨S_, .i32⟩
  | 86 => ⟨S100, .i32⟩
  | 87 => ⟨S100, .i32⟩
  | 88 => ⟨S100, .i32⟩
  | 89 => ⟨S100x1, .i32⟩
  | 90 => ⟨S100, .i1⟩
  | 91 => ⟨S_, .i32⟩
  | 92 => ⟨S100, .i32⟩
  | 93 => ⟨S100, .i1⟩
  | 94 => ⟨S_, .i32⟩
  | 95 => ⟨S100, .i32⟩
  | 96 => ⟨S100, .i32⟩
  | 97 => ⟨S100, .i32⟩
  | 98 => ⟨S100x1, .i32⟩
  | 99 => ⟨S100x4, .f32⟩
  | 100 => ⟨S_, .i32⟩
  | 101 => ⟨S100, .i32⟩
  | 102 => ⟨S100, .i1⟩
  | 103 => ⟨S_, .i32⟩
  | 104 => ⟨S100, .i32⟩
  | 105 => ⟨S100, .i32⟩
  | 106 => ⟨S100, .i32⟩
  | 107 => ⟨S100x1, .i32⟩
  | 108 => ⟨S100, .f32⟩
  | 109 => ⟨S100x1, .f32⟩
  | 110 => ⟨S100x1, .f32⟩
  | 111 => ⟨S100x1, .f32⟩
  | 112 => ⟨S100x4, .f32⟩
  | 113 => ⟨S100x4, .f32⟩
  | 114 => ⟨S100x1, .i1⟩
  | 115 => ⟨S_, .f32⟩
  | 116 => ⟨S_, .f32⟩
  | 117 => ⟨S100x4, .i1⟩
  | 118 => ⟨S100x4, .f32⟩
  | 119 => ⟨S100x4, .f32⟩
  | 120 => ⟨S_, .i32⟩
  | 121 => ⟨S100, .i32⟩
  | 122 => ⟨S100, .i1⟩
  | 123 => ⟨S_, .i32⟩
  | 124 => ⟨S100, .i32⟩
  | 125 => ⟨S100, .i32⟩
  | 126 => ⟨S100, .i32⟩
  | 127 => ⟨S100x1, .i32⟩
  | _ => ⟨S20000x4, .f32⟩

abbrev hbmTy0_2 (i : Nat) : BufTy := match i % 128 with
  | 0 => ⟨S100, .f32⟩
  | 1 => ⟨S_, .f32⟩
  | 2 => ⟨S_, .f32⟩
  | 3 => ⟨S100, .f32⟩
  | 4 => ⟨S100, .f32⟩
  | 5 => ⟨S_, .i32⟩
  | 6 => ⟨S100, .i32⟩
  | 7 => ⟨S100, .i1⟩
  | 8 => ⟨S_, .i32⟩
  | 9 => ⟨S100, .i32⟩
  | 10 => ⟨S100, .i32⟩
  | 11 => ⟨S100, .i32⟩
  | 12 => ⟨S100x1, .i32⟩
  | 13 => ⟨S100, .f32⟩
  | 14 => ⟨S_, .f32⟩
  | 15 => ⟨S_, .f32⟩
  | 16 => ⟨S100, .f32⟩
  | 17 => ⟨S100, .f32⟩
  | _ => ⟨S20000x4, .f32⟩

abbrev hbmTy (i : Nat) : BufTy := match i / 128 with
  | 0 => hbmTy0_0 i
  | 1 => hbmTy0_1 i
  | 2 => hbmTy0_2 i
  | _ => ⟨S20000x4, .f32⟩

abbrev bufTy : (tb : Table) → Fin (tcTables nBuf tb) → BufTy
  | .hbm, ⟨i, _⟩ => hbmTy i
  | _, _ => ⟨S20000x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_call0_v0 : Ref sig .tc := ⟨.hbm, 14, rfl⟩
abbrev main_call0_v1_0 : Ref sig .tc := ⟨.hbm, 15, rfl⟩
abbrev main_v9 : Ref sig .tc := ⟨.hbm, 16, rfl⟩
abbrev main_c : Ref sig .tc := ⟨.hbm, 17, rfl⟩
abbrev main_v10 : Ref sig .tc := ⟨.hbm, 18, rfl⟩
abbrev main_v11 : Ref sig .tc := ⟨.hbm, 19, rfl⟩
abbrev main_c_1 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_c_2 : Ref sig .tc := ⟨.hbm, 26, rfl⟩
abbrev main_v17 : Ref sig .tc := ⟨.hbm, 27, rfl⟩
abbrev main_v18 : Ref sig .tc := ⟨.hbm, 28, rfl⟩
abbrev main_c_3 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_c_4 : Ref sig .tc := ⟨.hbm, 35, rfl⟩
abbrev main_v24 : Ref sig .tc := ⟨.hbm, 36, rfl⟩
abbrev main_v25 : Ref sig .tc := ⟨.hbm, 37, rfl⟩
abbrev main_c_5 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_c_6 : Ref sig .tc := ⟨.hbm, 55, rfl⟩
abbrev main_v42 : Ref sig .tc := ⟨.hbm, 56, rfl⟩
abbrev main_c_7 : Ref sig .tc := ⟨.hbm, 57, rfl⟩
abbrev main_v43 : Ref sig .tc := ⟨.hbm, 58, rfl⟩
abbrev main_c_8 : Ref sig .tc := ⟨.hbm, 59, rfl⟩
abbrev main_c_9 : Ref sig .tc := ⟨.hbm, 60, rfl⟩
abbrev main_v44_0 : Ref sig .tc := ⟨.hbm, 61, rfl⟩
abbrev main_v44_1 : Ref sig .tc := ⟨.hbm, 62, rfl⟩
abbrev main_v44_2 : Ref sig .tc := ⟨.hbm, 63, rfl⟩
abbrev main_v44_3 : Ref sig .tc := ⟨.hbm, 64, rfl⟩
abbrev main_v44_4 : Ref sig .tc := ⟨.hbm, 65, rfl⟩
abbrev main_v44_5 : Ref sig .tc := ⟨.hbm, 66, rfl⟩
abbrev main_v44_6 : Ref sig .tc := ⟨.hbm, 67, rfl⟩
abbrev main_v44_7 : Ref sig .tc := ⟨.hbm, 68, rfl⟩
abbrev main_v44_8 : Ref sig .tc := ⟨.hbm, 69, rfl⟩
abbrev main_while0c_c_40 : Ref sig .tc := ⟨.hbm, 70, rfl⟩
abbrev main_while0c_v122 : Ref sig .tc := ⟨.hbm, 71, rfl⟩
abbrev main_while0b_v122 : Ref sig .tc := ⟨.hbm, 72, rfl⟩
abbrev main_while0b_c_40 : Ref sig .tc := ⟨.hbm, 73, rfl⟩
abbrev main_while0b_call1_v0 : Ref sig .tc := ⟨.hbm, 74, rfl⟩
abbrev main_while0b_call1_v1 : Ref sig .tc := ⟨.hbm, 75, rfl⟩
abbrev main_while0b_v123 : Ref sig .tc := ⟨.hbm, 76, rfl⟩
abbrev main_while0b_c_41 : Ref sig .tc := ⟨.hbm, 77, rfl⟩
abbrev main_while0b_v124 : Ref sig .tc := ⟨.hbm, 78, rfl⟩
abbrev main_while0b_c_42 : Ref sig .tc := ⟨.hbm, 79, rfl⟩
abbrev main_while0b_v125 : Ref sig .tc := ⟨.hbm, 80, rfl⟩
abbrev main_while0b_v126 : Ref sig .tc := ⟨.hbm, 81, rfl⟩
abbrev main_while0b_c_43 : Ref sig .tc := ⟨.hbm, 82, rfl⟩
abbrev main_while0b_v127 : Ref sig .tc := ⟨.hbm, 83, rfl⟩
abbrev main_while0b_c_44 : Ref sig .tc := ⟨.hbm, 84, rfl⟩
abbrev main_while0b_v128 : Ref sig .tc := ⟨.hbm, 85, rfl⟩
abbrev main_while0b_v129 : Ref sig .tc := ⟨.hbm, 86, rfl⟩
abbrev main_while0b_v130 : Ref sig .tc := ⟨.hbm, 87, rfl⟩
abbrev main_while0b_v131 : Ref sig .tc := ⟨.hbm, 88, rfl⟩
abbrev main_while0b_v132 : Ref sig .tc := ⟨.hbm, 89, rfl⟩
abbrev main_while0b_v133 : Ref sig .tc := ⟨.hbm, 90, rfl⟩
abbrev main_while0b_c_45 : Ref sig .tc := ⟨.hbm, 91, rfl⟩
abbrev main_while0b_v134 : Ref sig .tc := ⟨.hbm, 92, rfl⟩
abbrev main_while0b_c_46 : Ref sig .tc := ⟨.hbm, 93, rfl⟩
abbrev main_while0b_v135 : Ref sig .tc := ⟨.hbm, 94, rfl⟩
abbrev main_while0b_v136 : Ref sig .tc := ⟨.hbm, 95, rfl⟩
abbrev main_while0b_v137 : Ref sig .tc := ⟨.hbm, 96, rfl⟩
abbrev main_while0b_v138 : Ref sig .tc := ⟨.hbm, 97, rfl⟩
abbrev main_while0b_v139 : Ref sig .tc := ⟨.hbm, 98, rfl⟩
abbrev main_while0b_v140 : Ref sig .tc := ⟨.hbm, 99, rfl⟩
abbrev main_while0b_c_47 : Ref sig .tc := ⟨.hbm, 100, rfl⟩
abbrev main_while0b_v141 : Ref sig .tc := ⟨.hbm, 101, rfl⟩
abbrev main_while0b_c_48 : Ref sig .tc := ⟨.hbm, 102, rfl⟩
abbrev main_while0b_v142 : Ref sig .tc := ⟨.hbm, 103, rfl⟩
abbrev main_while0b_v143 : Ref sig .tc := ⟨.hbm, 104, rfl⟩
abbrev main_while0b_v144 : Ref sig .tc := ⟨.hbm, 105, rfl⟩
abbrev main_while0b_v145 : Ref sig .tc := ⟨.hbm, 106, rfl⟩
abbrev main_while0b_v146 : Ref sig .tc := ⟨.hbm, 107, rfl⟩
abbrev main_while0b_v147 : Ref sig .tc := ⟨.hbm, 108, rfl⟩
abbrev main_while0b_c_49 : Ref sig .tc := ⟨.hbm, 109, rfl⟩
abbrev main_while0b_v148 : Ref sig .tc := ⟨.hbm, 110, rfl⟩
abbrev main_while0b_c_50 : Ref sig .tc := ⟨.hbm, 111, rfl⟩
abbrev main_while0b_v149 : Ref sig .tc := ⟨.hbm, 112, rfl⟩
abbrev main_while0b_v150 : Ref sig .tc := ⟨.hbm, 113, rfl⟩
abbrev main_while0b_v151 : Ref sig .tc := ⟨.hbm, 114, rfl⟩
abbrev main_while0b_v152 : Ref sig .tc := ⟨.hbm, 115, rfl⟩
abbrev main_while0b_v153 : Ref sig .tc := ⟨.hbm, 116, rfl⟩
abbrev main_while0b_v154 : Ref sig .tc := ⟨.hbm, 117, rfl⟩
abbrev main_while0b_v155 : Ref sig .tc := ⟨.hbm, 118, rfl⟩
abbrev main_while0b_cst_51 : Ref sig .tc := ⟨.hbm, 119, rfl⟩
abbrev main_while0b_v156 : Ref sig .tc := ⟨.hbm, 120, rfl⟩
abbrev main_while0b_v157 : Ref sig .tc := ⟨.hbm, 121, rfl⟩
abbrev main_while0b_v158 : Ref sig .tc := ⟨.hbm, 122, rfl⟩
abbrev main_while0b_cst_52 : Ref sig .tc := ⟨.hbm, 123, rfl⟩
abbrev main_while0b_v159 : Ref sig .tc := ⟨.hbm, 124, rfl⟩
abbrev main_while0b_v160 : Ref sig .tc := ⟨.hbm, 125, rfl⟩
abbrev main_while0b_v161 : Ref sig .tc := ⟨.hbm, 126, rfl⟩
abbrev main_while0b_c_53 : Ref sig .tc := ⟨.hbm, 127, rfl⟩
abbrev main_while0b_v162 : Ref sig .tc := ⟨.hbm, 128, rfl⟩
abbrev main_while0b_c_54 : Ref sig .tc := ⟨.hbm, 129, rfl⟩
abbrev main_while0b_v163 : Ref sig .tc := ⟨.hbm, 130, rfl⟩
abbrev main_while0b_v164 : Ref sig .tc := ⟨.hbm, 131, rfl⟩
abbrev main_while0b_v165 : Ref sig .tc := ⟨.hbm, 132, rfl⟩
abbrev main_while0b_v166 : Ref sig .tc := ⟨.hbm, 133, rfl⟩
abbrev main_while0b_v167 : Ref sig .tc := ⟨.hbm, 134, rfl⟩
abbrev main_while0b_v168 : Ref sig .tc := ⟨.hbm, 135, rfl⟩
abbrev main_while0b_v169 : Ref sig .tc := ⟨.hbm, 136, rfl⟩
abbrev main_while0b_v170 : Ref sig .tc := ⟨.hbm, 137, rfl⟩
abbrev main_while0b_cst_55 : Ref sig .tc := ⟨.hbm, 138, rfl⟩
abbrev main_while0b_v171 : Ref sig .tc := ⟨.hbm, 139, rfl⟩
abbrev main_while0b_v172 : Ref sig .tc := ⟨.hbm, 140, rfl⟩
abbrev main_while0b_v173 : Ref sig .tc := ⟨.hbm, 141, rfl⟩
abbrev main_while0b_v174 : Ref sig .tc := ⟨.hbm, 142, rfl⟩
abbrev main_while0b_v175 : Ref sig .tc := ⟨.hbm, 143, rfl⟩
abbrev main_while0b_v176 : Ref sig .tc := ⟨.hbm, 144, rfl⟩
abbrev main_while0b_call2_v0 : Ref sig .tc := ⟨.hbm, 145, rfl⟩
abbrev main_while0b_v177 : Ref sig .tc := ⟨.hbm, 146, rfl⟩
abbrev main_while0b_v178 : Ref sig .tc := ⟨.hbm, 147, rfl⟩
abbrev main_while0b_c_56 : Ref sig .tc := ⟨.hbm, 148, rfl⟩
abbrev main_while0b_c_57 : Ref sig .tc := ⟨.hbm, 149, rfl⟩
abbrev main_while0b_v179 : Ref sig .tc := ⟨.hbm, 150, rfl⟩
abbrev main_while0b_v180 : Ref sig .tc := ⟨.hbm, 151, rfl⟩
abbrev main_while0b_c_58 : Ref sig .tc := ⟨.hbm, 152, rfl⟩
abbrev main_while0b_v181 : Ref sig .tc := ⟨.hbm, 153, rfl⟩
abbrev main_v45 : Ref sig .tc := ⟨.hbm, 154, rfl⟩
abbrev main_v46 : Ref sig .tc := ⟨.hbm, 155, rfl⟩
abbrev main_v47 : Ref sig .tc := ⟨.hbm, 156, rfl⟩
abbrev main_v48 : Ref sig .tc := ⟨.hbm, 157, rfl⟩
abbrev main_v49 : Ref sig .tc := ⟨.hbm, 158, rfl⟩
abbrev main_v50 : Ref sig .tc := ⟨.hbm, 159, rfl⟩
abbrev main_cst_10 : Ref sig .tc := ⟨.hbm, 160, rfl⟩
abbrev main_v51 : Ref sig .tc := ⟨.hbm, 161, rfl⟩
abbrev main_v52 : Ref sig .tc := ⟨.hbm, 162, rfl⟩
abbrev main_v53 : Ref sig .tc := ⟨.hbm, 163, rfl⟩
abbrev main_cst_11 : Ref sig .tc := ⟨.hbm, 164, rfl⟩
abbrev main_v54 : Ref sig .tc := ⟨.hbm, 165, rfl⟩
abbrev main_v55 : Ref sig .tc := ⟨.hbm, 166, rfl⟩
abbrev main_v56 : Ref sig .tc := ⟨.hbm, 167, rfl⟩
abbrev main_v57 : Ref sig .tc := ⟨.hbm, 168, rfl⟩
abbrev main_v58 : Ref sig .tc := ⟨.hbm, 169, rfl⟩
abbrev main_v59 : Ref sig .tc := ⟨.hbm, 170, rfl⟩
abbrev main_v60 : Ref sig .tc := ⟨.hbm, 171, rfl⟩
abbrev main_v61 : Ref sig .tc := ⟨.hbm, 172, rfl⟩
abbrev main_v62 : Ref sig .tc := ⟨.hbm, 173, rfl⟩
abbrev main_v63 : Ref sig .tc := ⟨.hbm, 174, rfl⟩
abbrev main_cst_12 : Ref sig .tc := ⟨.hbm, 175, rfl⟩
abbrev main_call4_v0 : Ref sig .tc := ⟨.hbm, 176, rfl⟩
abbrev main_call4_v1 : Ref sig .tc := ⟨.hbm, 177, rfl⟩
abbrev main_call4_v2 : Ref sig .tc := ⟨.hbm, 178, rfl⟩
abbrev main_v64 : Ref sig .tc := ⟨.hbm, 179, rfl⟩
abbrev main_cst_13 : Ref sig .tc := ⟨.hbm, 180, rfl⟩
abbrev main_v65 : Ref sig .tc := ⟨.hbm, 181, rfl⟩
abbrev main_v66 : Ref sig .tc := ⟨.hbm, 182, rfl⟩
abbrev main_cst_14 : Ref sig .tc := ⟨.hbm, 183, rfl⟩
abbrev main_call5_v0 : Ref sig .tc := ⟨.hbm, 184, rfl⟩
abbrev main_call5_v1 : Ref sig .tc := ⟨.hbm, 185, rfl⟩
abbrev main_call5_v2 : Ref sig .tc := ⟨.hbm, 186, rfl⟩
abbrev main_v67 : Ref sig .tc := ⟨.hbm, 187, rfl⟩
abbrev main_cst_15 : Ref sig .tc := ⟨.hbm, 188, rfl⟩
abbrev main_v68 : Ref sig .tc := ⟨.hbm, 189, rfl⟩
abbrev main_cst_16 : Ref sig .tc := ⟨.hbm, 190, rfl⟩
abbrev main_call6_v0 : Ref sig .tc := ⟨.hbm, 191, rfl⟩
abbrev main_call6_v1 : Ref sig .tc := ⟨.hbm, 192, rfl⟩
abbrev main_v69 : Ref sig .tc := ⟨.hbm, 193, rfl⟩
abbrev main_cst_17 : Ref sig .tc := ⟨.hbm, 194, rfl⟩
abbrev main_call7_v0 : Ref sig .tc := ⟨.hbm, 195, rfl⟩
abbrev main_call7_v1 : Ref sig .tc := ⟨.hbm, 196, rfl⟩
abbrev main_v70 : Ref sig .tc := ⟨.hbm, 197, rfl⟩
abbrev main_v71 : Ref sig .tc := ⟨.hbm, 198, rfl⟩
abbrev main_v72 : Ref sig .tc := ⟨.hbm, 199, rfl⟩
abbrev main_v73 : Ref sig .tc := ⟨.hbm, 200, rfl⟩
abbrev main_cst_18 : Ref sig .tc := ⟨.hbm, 201, rfl⟩
abbrev main_call8_v0 : Ref sig .tc := ⟨.hbm, 202, rfl⟩
abbrev main_call8_v1 : Ref sig .tc := ⟨.hbm, 203, rfl⟩
abbrev main_v74 : Ref sig .tc := ⟨.hbm, 204, rfl⟩
abbrev main_v75 : Ref sig .tc := ⟨.hbm, 205, rfl⟩
abbrev main_call9_v0 : Ref sig .tc := ⟨.hbm, 206, rfl⟩
abbrev main_call9_v1_0 : Ref sig .tc := ⟨.hbm, 207, rfl⟩
abbrev main_v76 : Ref sig .tc := ⟨.hbm, 208, rfl⟩
abbrev main_v77 : Ref sig .tc := ⟨.hbm, 209, rfl⟩
abbrev main_c_19 : Ref sig .tc := ⟨.hbm, 210, rfl⟩
abbrev main_v78 : Ref sig .tc := ⟨.hbm, 211, rfl⟩
abbrev main_v79 : Ref sig .tc := ⟨.hbm, 212, rfl⟩
abbrev main_c_20 : Ref sig .tc := ⟨.hbm, 213, rfl⟩
abbrev main_v80 : Ref sig .tc := ⟨.hbm, 214, rfl⟩
abbrev main_v81 : Ref sig .tc := ⟨.hbm, 215, rfl⟩
abbrev main_v82 : Ref sig .tc := ⟨.hbm, 216, rfl⟩
abbrev main_v83 : Ref sig .tc := ⟨.hbm, 217, rfl⟩
abbrev main_v84 : Ref sig .tc := ⟨.hbm, 218, rfl⟩
abbrev main_c_21 : Ref sig .tc := ⟨.hbm, 219, rfl⟩
abbrev main_v85 : Ref sig .tc := ⟨.hbm, 220, rfl⟩
abbrev main_v86 : Ref sig .tc := ⟨.hbm, 221, rfl⟩
abbrev main_c_22 : Ref sig .tc := ⟨.hbm, 222, rfl⟩
abbrev main_v87 : Ref sig .tc := ⟨.hbm, 223, rfl⟩
abbrev main_v88 : Ref sig .tc := ⟨.hbm, 224, rfl⟩
abbrev main_v89 : Ref sig .tc := ⟨.hbm, 225, rfl⟩
abbrev main_v90 : Ref sig .tc := ⟨.hbm, 226, rfl⟩
abbrev main_v91 : Ref sig .tc := ⟨.hbm, 227, rfl⟩
abbrev main_c_23 : Ref sig .tc := ⟨.hbm, 228, rfl⟩
abbrev main_v92 : Ref sig .tc := ⟨.hbm, 229, rfl⟩
abbrev main_v93 : Ref sig .tc := ⟨.hbm, 230, rfl⟩
abbrev main_c_24 : Ref sig .tc := ⟨.hbm, 231, rfl⟩
abbrev main_v94 : Ref sig .tc := ⟨.hbm, 232, rfl⟩
abbrev main_v95 : Ref sig .tc := ⟨.hbm, 233, rfl⟩
abbrev main_v96 : Ref sig .tc := ⟨.hbm, 234, rfl⟩
abbrev main_v97 : Ref sig .tc := ⟨.hbm, 235, rfl⟩
abbrev main_v98 : Ref sig .tc := ⟨.hbm, 236, rfl⟩
abbrev main_v99 : Ref sig .tc := ⟨.hbm, 237, rfl⟩
abbrev main_v100 : Ref sig .tc := ⟨.hbm, 238, rfl⟩
abbrev main_v101 : Ref sig .tc := ⟨.hbm, 239, rfl⟩
abbrev main_v102 : Ref sig .tc := ⟨.hbm, 240, rfl⟩
abbrev main_v103 : Ref sig .tc := ⟨.hbm, 241, rfl⟩
abbrev main_v104 : Ref sig .tc := ⟨.hbm, 242, rfl⟩
abbrev main_cst_25 : Ref sig .tc := ⟨.hbm, 243, rfl⟩
abbrev main_call10_v0 : Ref sig .tc := ⟨.hbm, 244, rfl⟩
abbrev main_call10_v1 : Ref sig .tc := ⟨.hbm, 245, rfl⟩
abbrev main_call10_v2 : Ref sig .tc := ⟨.hbm, 246, rfl⟩
abbrev main_v105 : Ref sig .tc := ⟨.hbm, 247, rfl⟩
abbrev main_c_26 : Ref sig .tc := ⟨.hbm, 248, rfl⟩
abbrev main_v106 : Ref sig .tc := ⟨.hbm, 249, rfl⟩
abbrev main_v107 : Ref sig .tc := ⟨.hbm, 250, rfl⟩
abbrev main_c_27 : Ref sig .tc := ⟨.hbm, 251, rfl⟩
abbrev main_v108 : Ref sig .tc := ⟨.hbm, 252, rfl⟩
abbrev main_v109 : Ref sig .tc := ⟨.hbm, 253, rfl⟩
abbrev main_v110 : Ref sig .tc := ⟨.hbm, 254, rfl⟩
abbrev main_v111 : Ref sig .tc := ⟨.hbm, 255, rfl⟩
abbrev main_v112 : Ref sig .tc := ⟨.hbm, 256, rfl⟩
abbrev main_cst_28 : Ref sig .tc := ⟨.hbm, 257, rfl⟩
abbrev main_call11_v0 : Ref sig .tc := ⟨.hbm, 258, rfl⟩
abbrev main_call11_v1 : Ref sig .tc := ⟨.hbm, 259, rfl⟩
abbrev main_v113 : Ref sig .tc := ⟨.hbm, 260, rfl⟩
abbrev main_c_29 : Ref sig .tc := ⟨.hbm, 261, rfl⟩
abbrev main_v114 : Ref sig .tc := ⟨.hbm, 262, rfl⟩
abbrev main_v115 : Ref sig .tc := ⟨.hbm, 263, rfl⟩
abbrev main_c_30 : Ref sig .tc := ⟨.hbm, 264, rfl⟩
abbrev main_v116 : Ref sig .tc := ⟨.hbm, 265, rfl⟩
abbrev main_v117 : Ref sig .tc := ⟨.hbm, 266, rfl⟩
abbrev main_v118 : Ref sig .tc := ⟨.hbm, 267, rfl⟩
abbrev main_v119 : Ref sig .tc := ⟨.hbm, 268, rfl⟩
abbrev main_v120 : Ref sig .tc := ⟨.hbm, 269, rfl⟩
abbrev main_cst_31 : Ref sig .tc := ⟨.hbm, 270, rfl⟩
abbrev main_call12_v0 : Ref sig .tc := ⟨.hbm, 271, rfl⟩
abbrev main_call12_v1 : Ref sig .tc := ⟨.hbm, 272, rfl⟩
abbrev main_v121 : Ref sig .tc := ⟨.hbm, 273, rfl⟩

abbrev nD : Nat := 1
abbrev τ : Topo := Topo.v7x

variable {F : FTy → Type} [FloatOps F]

abbrev main_while0_count : Scf.Loop 32 := ⟨0#32, 20000#32, 1#32⟩
-- ==== Proof.PI.Run.lean ====
/-
The kernel's run on the extended reals: the body, the launch around it, and the quiescent frame.
-/
module

public import proofs.«01_k».proof.Proof.Gen.KernelIdeal.Frame
public import proofs.«01_k».proof.Proof.Gen.KernelIdeal.Skeleton
public import Idealize.ShloMosaic.Lib.Tactic
public import Idealize.ShloMosaic.PureOps.BitExact
public import Idealize.ShloMosaic.PureOps.Ideal

@[expose] public section

noncomputable section

namespace Cert.Proof.PI

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

/-- The resource algebra of the launch. -/
local notation "𝕄" => MT nD τ sig Unit (Elt F) ℕ (UR sig nD τ) ℕ

/-- No loop of the kernel needs a variant. -/
abbrev 𝒱₀ : Variants := Variants.none

/-! ## One trip of the loop as a function -/

/-- Whether any box is left: the largest remaining score is not the filler -1. -/
def leftOf (v9 u : FVec F S160x128 .f32) : BitVec 1 :=
  Scalar.cmpf .oge (k0_pay11 v9 u) (Scalar.ofBits .f32 0x00000000#32)

/-- The boxes the trip's head takes, from the mask `u` of the boxes not taken yet. -/
def mergeOf (v9 v20 v23 v26 v29 v32 : FVec F S160x128 .f32) (v37 : IVec S160x128 32) (u : FVec F S160x128 .f32) :
    IVec S160x128 1 :=
  k0_pay19 v20 v23 v26 v29 v32 (k0_pay9 u) (leftOf v9 u)
    (k0_pay13 v9 v20 v37 20481#32 u) (k0_pay14 v9 v23 v37 20481#32 u) (k0_pay15 v9 v26 v37 20481#32 u) (k0_pay16 v9 v29 v37 20481#32 u) (k0_pay17 v9 v20 v26 v37 20481#32 u) (k0_pay18 v9 v23 v29 v37 20481#32 u)

/-- One trip: what it carries on, from the planes, the trip's number and what it was given. -/
def trip (v9 v11 v20 v23 v26 v29 v32 : FVec F S160x128 .f32) (v37 : IVec S160x128 32) (v38 : IVec S1x128 32)
    (k : Fin k0_t1_loop.trips)
    (acc : FVec F S160x128 .f32 × FVec F S1x128 .f32 × FVec F S1x128 .f32 × FVec F S1x128 .f32 × FVec F S1x128 .f32 × FVec F S1x128 .f32 × FVec F S1x128 .f32 × FVec F S1x128 .f32 × FVec F S1x128 .f32) :
    FVec F S160x128 .f32 × FVec F S1x128 .f32 × FVec F S1x128 .f32 × FVec F S1x128 .f32 × FVec F S1x128 .f32 × FVec F S1x128 .f32 × FVec F S1x128 .f32 × FVec F S1x128 .f32 × FVec F S1x128 .f32 :=
  (k0_pay7 acc.1 (mergeOf v9 v20 v23 v26 v29 v32 v37 acc.1),
   k0_pay22 v9 v20 v23 v26 v29 v32 v38 acc.2.1 (Scf.iv 0#32 1#32 k) (k0_pay9 acc.1) (leftOf v9 acc.1)
     (k0_pay13 v9 v20 v37 20481#32 acc.1) (k0_pay14 v9 v23 v37 20481#32 acc.1) (k0_pay15 v9 v26 v37 20481#32 acc.1) (k0_pay16 v9 v29 v37 20481#32 acc.1) (k0_pay17 v9 v20 v26 v37 20481#32 acc.1) (k0_pay18 v9 v23 v29 v37 20481#32 acc.1),
   k0_pay23 v9 v20 v23 v26 v29 v32 v38 acc.2.2.1 (Scf.iv 0#32 1#32 k) (k0_pay9 acc.1) (leftOf v9 acc.1)
     (k0_pay13 v9 v20 v37 20481#32 acc.1) (k0_pay14 v9 v23 v37 20481#32 acc.1) (k0_pay15 v9 v26 v37 20481#32 acc.1) (k0_pay16 v9 v29 v37 20481#32 acc.1) (k0_pay17 v9 v20 v26 v37 20481#32 acc.1) (k0_pay18 v9 v23 v29 v37 20481#32 acc.1),
   k0_pay24 v9 v20 v23 v26 v29 v32 v38 acc.2.2.2.1 (Scf.iv 0#32 1#32 k) (k0_pay9 acc.1) (leftOf v9 acc.1)
     (k0_pay13 v9 v20 v37 20481#32 acc.1) (k0_pay14 v9 v23 v37 20481#32 acc.1) (k0_pay15 v9 v26 v37 20481#32 acc.1) (k0_pay16 v9 v29 v37 20481#32 acc.1) (k0_pay17 v9 v20 v26 v37 20481#32 acc.1) (k0_pay18 v9 v23 v29 v37 20481#32 acc.1),
   k0_pay2 acc.2.2.2.2.1 (k0_pay21 v38 (Scf.iv 0#32 1#32 k)) (k0_pay25 v9 v20 v23 v26 v29 v32 (k0_pay9 acc.1) (leftOf v9 acc.1)
     (k0_pay13 v9 v20 v37 20481#32 acc.1) (k0_pay14 v9 v23 v37 20481#32 acc.1) (k0_pay15 v9 v26 v37 20481#32 acc.1) (k0_pay16 v9 v29 v37 20481#32 acc.1) (k0_pay17 v9 v20 v26 v37 20481#32 acc.1) (k0_pay18 v9 v23 v29 v37 20481#32 acc.1)),
   k0_pay3 acc.2.2.2.2.2.1 (k0_pay20 v9 v20 v23 v26 v29 v32 (k0_pay9 acc.1) (leftOf v9 acc.1)
     (k0_pay13 v9 v20 v37 20481#32 acc.1) (k0_pay14 v9 v23 v37 20481#32 acc.1) (k0_pay15 v9 v26 v37 20481#32 acc.1) (k0_pay16 v9 v29 v37 20481#32 acc.1) (k0_pay17 v9 v20 v26 v37 20481#32 acc.1) (k0_pay18 v9 v23 v29 v37 20481#32 acc.1)) (k0_pay21 v38 (Scf.iv 0#32 1#32 k)),
   k0_pay4 acc.2.2.2.2.2.2.1 (k0_pay11 v9 acc.1) (k0_pay21 v38 (Scf.iv 0#32 1#32 k)),
   k0_pay5 v11 acc.2.2.2.2.2.2.2.1 (mergeOf v9 v20 v23 v26 v29 v32 v37 acc.1) (k0_pay21 v38 (Scf.iv 0#32 1#32 k)),
   k0_pay6 acc.2.2.2.2.2.2.2.2 (leftOf v9 acc.1) (k0_pay21 v38 (Scf.iv 0#32 1#32 k)))

/-- The loop's region is that function: it has no effect on memory. -/
theorem body_eq_trip (M0 : Memref sig .tc .vmem S160x128 .f32) (h0 : M0.IsWhole) (M1 : Memref sig .tc .vmem S160x128 .f32) (h1 : M1.IsWhole) (M2 : Memref sig .tc .vmem S160x128 .f32) (h2 : M2.IsWhole) (M3 : Memref sig .tc .vmem S160x128 .f32) (h3 : M3.IsWhole) (M4 : Memref sig .tc .vmem S160x128 .f32) (h4 : M4.IsWhole) (M5 : Memref sig .tc .vmem S160x128 .f32) (h5 : M5.IsWhole) (M6 : Memref sig .tc .vmem S8x128 .f32) (h6 : M6.IsWhole)
    (v9 v11 v20 v23 v26 v29 v32 : FVec F S160x128 .f32) (v37 : IVec S160x128 32) (v38 : IVec S1x128 32)
    (k : Fin k0_t1_loop.trips)
    (acc : FVec F S160x128 .f32 × FVec F S1x128 .f32 × FVec F S1x128 .f32 × FVec F S1x128 .f32 × FVec F S1x128 .f32 × FVec F S1x128 .f32 × FVec F S1x128 .f32 × FVec F S1x128 .f32 × FVec F S1x128 .f32) :
    k0_t1_body M0 h0 M1 h1 M2 h2 M3 h3 M4 h4 M5 h5 M6 h6 v9 v11 v20 v23 v26 v29 v32 v37 v38 k acc
      = .ret (trip v9 v11 v20 v23 v26 v29 v32 v37 v38 k acc) := by
  obtain ⟨a8, a9, a10, a11, a12, a13, a14, a15, a16⟩ := acc
  unfold k0_t1_body
  rw [k0_part1_eq_skeleton, k0_part2_eq_skeleton]
  rfl

/-- The hundred trips are the fold of that function. -/
theorem loop_eq (M0 : Memref sig .tc .vmem S160x128 .f32) (h0 : M0.IsWhole) (M1 : Memref sig .tc .vmem S160x128 .f32) (h1 : M1.IsWhole) (M2 : Memref sig .tc .vmem S160x128 .f32) (h2 : M2.IsWhole) (M3 : Memref sig .tc .vmem S160x128 .f32) (h3 : M3.IsWhole) (M4 : Memref sig .tc .vmem S160x128 .f32) (h4 : M4.IsWhole) (M5 : Memref sig .tc .vmem S160x128 .f32) (h5 : M5.IsWhole) (M6 : Memref sig .tc .vmem S8x128 .f32) (h6 : M6.IsWhole)
    (v9 v11 v20 v23 v26 v29 v32 : FVec F S160x128 .f32) (v37 : IVec S160x128 32) (v38 : IVec S1x128 32)
    (init : FVec F S160x128 .f32 × FVec F S1x128 .f32 × FVec F S1x128 .f32 × FVec F S1x128 .f32 × FVec F S1x128 .f32 × FVec F S1x128 .f32 × FVec F S1x128 .f32 × FVec F S1x128 .f32 × FVec F S1x128 .f32) :
    Scf.Loop.for k0_t1_loop k0_t1_ok init
        (k0_t1_body M0 h0 M1 h1 M2 h2 M3 h3 M4 h4 M5 h5 M6 h6 v9 v11 v20 v23 v26 v29 v32 v37 v38)
      = .ret ((Scf.fold (trip v9 v11 v20 v23 v26 v29 v32 v37 v38) init).1, (Scf.fold (trip v9 v11 v20 v23 v26 v29 v32 v37 v38) init).2.1, (Scf.fold (trip v9 v11 v20 v23 v26 v29 v32 v37 v38) init).2.2.1, (Scf.fold (trip v9 v11 v20 v23 v26 v29 v32 v37 v38) init).2.2.2.1, (Scf.fold (trip v9 v11 v20 v23 v26 v29 v32 v37 v38) init).2.2.2.2.1, (Scf.fold (trip v9 v11 v20 v23 v26 v29 v32 v37 v38) init).2.2.2.2.2.1, (Scf.fold (trip v9 v11 v20 v23 v26 v29 v32 v37 v38) init).2.2.2.2.2.2.1, (Scf.fold (trip v9 v11 v20 v23 v26 v29 v32 v37 v38) init).2.2.2.2.2.2.2.1, (Scf.fold (trip v9 v11 v20 v23 v26 v29 v32 v37 v38) init).2.2.2.2.2.2.2.2) :=
  Scf.for_pure _ _ _ _ _ _ _ fun k acc => body_eq_trip M0 h0 M1 h1 M2 h2 M3 h3 M4 h4 M5 h5 M6 h6 v9 v11 v20 v23 v26 v29 v32 v37 v38 k acc

/-- The kernel's body on whole staging buffers: the six planes keep what they hold, and the result's buffer ends at
    the value the run finds. The hundred trips have no effect, so they enter that value as a fold. -/
noncomputable def kernelRun (c : Dev nD) (M0 : Memref sig .tc .vmem S160x128 .f32) (h0 : M0.IsWhole) (M1 : Memref sig .tc .vmem S160x128 .f32) (h1 : M1.IsWhole) (M2 : Memref sig .tc .vmem S160x128 .f32) (h2 : M2.IsWhole) (M3 : Memref sig .tc .vmem S160x128 .f32) (h3 : M3.IsWhole) (M4 : Memref sig .tc .vmem S160x128 .f32) (h4 : M4.IsWhole) (M5 : Memref sig .tc .vmem S160x128 .f32) (h5 : M5.IsWhole)
    (M6 : Memref sig .tc .vmem S8x128 .f32) (h6 : M6.IsWhole)
    (x0 : Vec F S160x128 .f32) (x1 : Vec F S160x128 .f32) (x2 : Vec F S160x128 .f32) (x3 : Vec F S160x128 .f32) (x4 : Vec F S160x128 .f32) (x5 : Vec F S160x128 .f32) :
    { Y : Vec F S8x128 .f32 //
      ∀ (E : Set ℕ) (K : PUnit → sProp 𝕄),
        iprop(owns (c : Thread nD τ) M0 fullShare x0 ∗ owns (c : Thread nD τ) M1 fullShare x1 ∗ owns (c : Thread nD τ) M2 fullShare x2 ∗ owns (c : Thread nD τ) M3 fullShare x3 ∗ owns (c : Thread nD τ) M4 fullShare x4 ∗ owns (c : Thread nD τ) M5 fullShare x5 ∗ (∃ d, owns (c : Thread nD τ) M6 fullShare d)
            ∗ (iprop(owns (c : Thread nD τ) M0 fullShare x0 ∗ owns (c : Thread nD τ) M1 fullShare x1 ∗ owns (c : Thread nD τ) M2 fullShare x2 ∗ owns (c : Thread nD τ) M3 fullShare x3 ∗ owns (c : Thread nD τ) M4 fullShare x4 ∗ owns (c : Thread nD τ) M5 fullShare x5 ∗ owns (c : Thread nD τ) M6 fullShare Y) -∗ K ⟨⟩))
          ⊢ wp frame (wpE (defs₀ (F := F)) 𝒱₀ c none) E (cc0__nms_body M0 h0 M1 h1 M2 h2 M3 h3 M4 h4 M5 h5 M6 h6) K } := by
  refine ⟨?_, fun E K => ?run⟩
  case run =>
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
    obtain rfl := h0.eq_unread hf0; obtain rfl := h1.eq_unread hf1; obtain rfl := h2.eq_unread hf2; obtain rfl := h3.eq_unread hf3; obtain rfl := h4.eq_unread hf4; obtain rfl := h5.eq_unread hf5
    sl_unfold [cc0__nms_body]
    sl_exec!
    rw [loop_eq]
    sl_exec!
    sl_step
    iapply Hk
    isplitl [H0]
    · iexists _; isplitr; · ipureintro; exact h0.read_unread _
      iexact H0
    isplitl [H1]
    · iexists _; isplitr; · ipureintro; exact h1.read_unread _
      iexact H1
    isplitl [H2]
    · iexists _; isplitr; · ipureintro; exact h2.read_unread _
      iexact H2
    isplitl [H3]
    · iexists _; isplitr; · ipureintro; exact h3.read_unread _
      iexact H3
    isplitl [H4]
    · iexists _; isplitr; · ipureintro; exact h4.read_unread _
      iexact H4
    isplitl [H5]
    · iexists _; isplitr; · ipureintro; exact h5.read_unread _
      iexact H5
    iexists _; isplitr; swap; · iexact H6
    ipureintro; rfl

variable (m : (ℓ : Loc nD τ sig) → Buf (Elt F) ℓ) (ρ : Dev nD → PrngReg)

/-- Window 0's staging buffer at a point, and that it is whole. -/
abbrev ms0_0 (t : Fin cfg0.N) : Memref sig .tc .vmem S160x128 .f32 := win0_0.stage (cfg0.slots t 0)
abbrev hs0_0 (t : Fin cfg0.N) : (ms0_0 t).IsWhole := hstage0_0 0
/-- Window 1's staging buffer at a point, and that it is whole. -/
abbrev ms0_1 (t : Fin cfg0.N) : Memref sig .tc .vmem S160x128 .f32 := win0_1.stage (cfg0.slots t 1)
abbrev hs0_1 (t : Fin cfg0.N) : (ms0_1 t).IsWhole := hstage0_1 0
/-- Window 2's staging buffer at a point, and that it is whole. -/
abbrev ms0_2 (t : Fin cfg0.N) : Memref sig .tc .vmem S160x128 .f32 := win0_2.stage (cfg0.slots t 2)
abbrev hs0_2 (t : Fin cfg0.N) : (ms0_2 t).IsWhole := hstage0_2 0
/-- Window 3's staging buffer at a point, and that it is whole. -/
abbrev ms0_3 (t : Fin cfg0.N) : Memref sig .tc .vmem S160x128 .f32 := win0_3.stage (cfg0.slots t 3)
abbrev hs0_3 (t : Fin cfg0.N) : (ms0_3 t).IsWhole := hstage0_3 0
/-- Window 4's staging buffer at a point, and that it is whole. -/
abbrev ms0_4 (t : Fin cfg0.N) : Memref sig .tc .vmem S160x128 .f32 := win0_4.stage (cfg0.slots t 4)
abbrev hs0_4 (t : Fin cfg0.N) : (ms0_4 t).IsWhole := hstage0_4 0
/-- Window 5's staging buffer at a point, and that it is whole. -/
abbrev ms0_5 (t : Fin cfg0.N) : Memref sig .tc .vmem S160x128 .f32 := win0_5.stage (cfg0.slots t 5)
abbrev hs0_5 (t : Fin cfg0.N) : (ms0_5 t).IsWhole := hstage0_5 0
/-- Window 6's staging buffer at a point, and that it is whole. -/
abbrev ms0_6 (t : Fin cfg0.N) : Memref sig .tc .vmem S8x128 .f32 := win0_6.stage (cfg0.slots t 6)
abbrev hs0_6 (t : Fin cfg0.N) : (ms0_6 t).IsWhole := hstage0_6 0

/-- What the body leaves in the result's staging buffer. -/
def outsAt (c : Dev nD) (t : Fin cfg0.N) : Vec F S8x128 .f32 :=
  (kernelRun c (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t)
    (iblk m c 0 t) (iblk m c 1 t) (iblk m c 2 t) (iblk m c 3 t) (iblk m c 4 t) (iblk m c 5 t)).1

/-- The launch's proof data: every plane stays at its block, the result is at `outsAt`, nothing is owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => outsAt m c t
  Φ _ := Pipeline.ΦA spec0 c
  q _ := fullShare
  owed _ := 0

theorem A_eq (c : Dev nD) (w : Fin cfg0.W) : (dats m 0 c).A w = V m c (Pipeline.arrRef spec0 w) := rfl
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = outsAt m c t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-- The body meets its obligation at the launch's one point. -/
theorem body_obligation (c : Dev nD) : BodyObligation (dats (F := F) m 0 c) (defs₀ (F := F)) 𝒱₀ () Set.univ := fun t => by
  rw [bigSep_W0, bigSep_W0]
  sl_whnfR [defs₀, Defs.onTc]
  simp only [before0_0, before0_1, before0_2, before0_3, before0_4, before0_5]
  rw [show (dats m 0 c).Φ t.succ = (dats m 0 c).Φ t.castSucc from rfl,
    show (dats m 0 c).owesAt () t.succ = (dats m 0 c).owesAt () t.castSucc from rfl, after0_0, after0_1, after0_2, after0_3, after0_4, after0_5, after0_6]
  unfold outsAt
  iintro ⟨HΦ, Ho, ⟨%d0, H0⟩, ⟨%d1, H1⟩, ⟨%d2, H2⟩, ⟨%d3, H3⟩, ⟨%d4, H4⟩, ⟨%d5, H5⟩, ⟨%d6, H6⟩⟩
  iapply ((kernelRun c _ _ _ _ _ _ _ _ _ _ _ _ _ _ (iblk m c 0 t) (iblk m c 1 t) (iblk m c 2 t) (iblk m c 3 t) (iblk m c 4 t) (iblk m c 5 t)).2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

set_option backward.isDefEq.respectTransparency.types false in
/-- The run of the whole entry: the launch's arrays and the host lines after it, and every counter at zero. -/
theorem run_main : θ_run defs (onTc (τ := τ) (main (F := F))) (s₀ m ρ)
    (fun r => Pipeline.FramePost cfgs (dats m) 0 (Pipeline.afterTail₀ cfgs (dats m) 0 (V0 m) [hostOps1]) r
      ∧ r.2.sem = fun _ => 0) :=
  Pipeline.θ_run_frame_around (Q' := _) cfgs (dats m) (0 : Fin 1) launch0 defs₀ 𝒱₀ m ρ main
    (hbody := fun c => (body_obligation m c).loose) (hshare := fun c => (dats m 0 c).share_full fun _ => rfl)
    (howed := fun _ _ => rfl) (V₀ := V0 m) (opss := [hostOps1]) (hsub := sfx_sub) (hfresh := sfx_fresh)
    (hkeep := sfx_keeps) (hmain := hmain m 𝒱₀) (hA := fun _ _ => rfl) (hΦ := fun _ _ => rfl)

/-- Every run ends with the arguments as they were and every counter at zero. -/
theorem frame (m : (ℓ : Loc nD τ sig) → Buf (Elt Ideal) ℓ) (ρ : Dev nD → PrngReg) :
    θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) ∧ r.2.sem = fun _ => 0) :=
  θ_run_with_sems (Gen.frame_of m ρ (dats m) fun _ _ => rfl) (run_main m ρ)

end Cert.Proof.PI
-- ==== Proof.RI.Run.lean ====
/-
The reference's run on the extended reals: what its loop and the lines around it leave as they found it, and the
quiescent frame.
-/
module

public import proofs.«01_k».proof.Proof.Gen.ReferenceIdeal.Run
public import Idealize.ShloMosaic.Lib.Claim
public import Idealize.ShloMosaic.PureOps.Ideal

@[expose] public section

noncomputable section

namespace Cert.Proof.RI

open Cert.ReferenceIdeal Cert.ReferenceIdeal.Gen Cert.ReferenceIdeal.Value

open Idealize.ShloMosaic Idealize.ShloMosaic.TcCoe Idealize.ShloMosaic.StableHlo
open Idealize.SL.Sem

variable {F : FTy → Type} [FloatOps F]

variable (m : (ℓ : Loc nD τ sig) → Buf (Elt F) ℓ) (ρ : Dev nD → PrngReg)

/-- The reference each operation of `hostOps0_3` writes, in order. -/
abbrev hostOps0_3_W : List (Ref sig .tc) := [main_v45, main_v46, main_v47, main_v48, main_v49, main_v50, main_cst_10, main_v51, main_v52, main_v53, main_cst_11, main_v54, main_v55, main_v56, main_v57, main_v58, main_v59, main_v60, main_v61, main_v62, main_v63, main_cst_12]
theorem hostOps0_3_writes : (hostOps0_3 : List (HloOp τ sig (Elt F))).Forall fun op =>
    op.writes ⊆ (hostOps0_3_W.map (Proc.devRef (τ := τ) .tc)).toFinset := forall_writes_sub_of_map rfl

/-- The reference each operation of `hostOps0_4` writes, in order. -/
abbrev hostOps0_4_W : List (Ref sig .tc) := [main_call4_v0, main_call4_v1, main_call4_v2, main_v64]
theorem hostOps0_4_writes : (hostOps0_4 : List (HloOp τ sig (Elt F))).Forall fun op =>
    op.writes ⊆ (hostOps0_4_W.map (Proc.devRef (τ := τ) .tc)).toFinset := forall_writes_sub_of_map rfl

/-- The reference each operation of `hostOps0_5` writes, in order. -/
abbrev hostOps0_5_W : List (Ref sig .tc) := [main_cst_13, main_v65, main_v66, main_cst_14]
theorem hostOps0_5_writes : (hostOps0_5 : List (HloOp τ sig (Elt F))).Forall fun op =>
    op.writes ⊆ (hostOps0_5_W.map (Proc.devRef (τ := τ) .tc)).toFinset := forall_writes_sub_of_map rfl

/-- The reference each operation of `hostOps0_6` writes, in order. -/
abbrev hostOps0_6_W : List (Ref sig .tc) := [main_call5_v0, main_call5_v1, main_call5_v2, main_v67]
theorem hostOps0_6_writes : (hostOps0_6 : List (HloOp τ sig (Elt F))).Forall fun op =>
    op.writes ⊆ (hostOps0_6_W.map (Proc.devRef (τ := τ) .tc)).toFinset := forall_writes_sub_of_map rfl

/-- The reference each operation of `hostOps0_7` writes, in order. -/
abbrev hostOps0_7_W : List (Ref sig .tc) := [main_cst_15, main_v68, main_cst_16]
theorem hostOps0_7_writes : (hostOps0_7 : List (HloOp τ sig (Elt F))).Forall fun op =>
    op.writes ⊆ (hostOps0_7_W.map (Proc.devRef (τ := τ) .tc)).toFinset := forall_writes_sub_of_map rfl

/-- The reference each operation of `hostOps0_8` writes, in order. -/
abbrev hostOps0_8_W : List (Ref sig .tc) := [main_call6_v0, main_call6_v1, main_v69]
theorem hostOps0_8_writes : (hostOps0_8 : List (HloOp τ sig (Elt F))).Forall fun op =>
    op.writes ⊆ (hostOps0_8_W.map (Proc.devRef (τ := τ) .tc)).toFinset := forall_writes_sub_of_map rfl

/-- The reference each operation of `hostOps0_9` writes, in order. -/
abbrev hostOps0_9_W : List (Ref sig .tc) := [main_cst_17]
theorem hostOps0_9_writes : (hostOps0_9 : List (HloOp τ sig (Elt F))).Forall fun op =>
    op.writes ⊆ (hostOps0_9_W.map (Proc.devRef (τ := τ) .tc)).toFinset := forall_writes_sub_of_map rfl

/-- The reference each operation of `hostOps0_10` writes, in order. -/
abbrev hostOps0_10_W : List (Ref sig .tc) := [main_call7_v0, main_call7_v1, main_v70]
theorem hostOps0_10_writes : (hostOps0_10 : List (HloOp τ sig (Elt F))).Forall fun op =>
    op.writes ⊆ (hostOps0_10_W.map (Proc.devRef (τ := τ) .tc)).toFinset := forall_writes_sub_of_map rfl

/-- The reference each operation of `hostOps0_11` writes, in order. -/
abbrev hostOps0_11_W : List (Ref sig .tc) := [main_v71, main_v72, main_v73, main_cst_18]
theorem hostOps0_11_writes : (hostOps0_11 : List (HloOp τ sig (Elt F))).Forall fun op =>
    op.writes ⊆ (hostOps0_11_W.map (Proc.devRef (τ := τ) .tc)).toFinset := forall_writes_sub_of_map rfl

/-- The reference each operation of `hostOps0_12` writes, in order. -/
abbrev hostOps0_12_W : List (Ref sig .tc) := [main_call8_v0, main_call8_v1, main_v74]
theorem hostOps0_12_writes : (hostOps0_12 : List (HloOp τ sig (Elt F))).Forall fun op =>
    op.writes ⊆ (hostOps0_12_W.map (Proc.devRef (τ := τ) .tc)).toFinset := forall_writes_sub_of_map rfl

/-- The reference each operation of `hostOps0_13` writes, in order. -/
abbrev hostOps0_13_W : List (Ref sig .tc) := [main_v75]
theorem hostOps0_13_writes : (hostOps0_13 : List (HloOp τ sig (Elt F))).Forall fun op =>
    op.writes ⊆ (hostOps0_13_W.map (Proc.devRef (τ := τ) .tc)).toFinset := forall_writes_sub_of_map rfl

/-- The reference each operation of `hostOps0_14` writes, in order. -/
abbrev hostOps0_14_W : List (Ref sig .tc) := [main_call9_v0, main_call9_v1_0, main_v76]
theorem hostOps0_14_writes : (hostOps0_14 : List (HloOp τ sig (Elt F))).Forall fun op =>
    op.writes ⊆ (hostOps0_14_W.map (Proc.devRef (τ := τ) .tc)).toFinset := forall_writes_sub_of_map rfl

/-- The reference each operation of `hostOps0_15` writes, in order. -/
abbrev hostOps0_15_W : List (Ref sig .tc) := [main_v77, main_c_19, main_v78, main_v79, main_c_20, main_v80, main_v81, main_v82, main_v83, main_v84, main_c_21, main_v85, main_v86, main_c_22, main_v87, main_v88, main_v89, main_v90, main_v91, main_c_23, main_v92, main_v93, main_c_24, main_v94, main_v95, main_v96, main_v97, main_v98, main_v99, main_v100, main_v101, main_v102, main_v103, main_v104, main_cst_25]
theorem hostOps0_15_writes : (hostOps0_15 : List (HloOp τ sig (Elt F))).Forall fun op =>
    op.writes ⊆ (hostOps0_15_W.map (Proc.devRef (τ := τ) .tc)).toFinset := forall_writes_sub_of_map rfl

/-- The reference each operation of `hostOps0_16` writes, in order. -/
abbrev hostOps0_16_W : List (Ref sig .tc) := [main_call10_v0, main_call10_v1, main_call10_v2, main_v105]
theorem hostOps0_16_writes : (hostOps0_16 : List (HloOp τ sig (Elt F))).Forall fun op =>
    op.writes ⊆ (hostOps0_16_W.map (Proc.devRef (τ := τ) .tc)).toFinset := forall_writes_sub_of_map rfl

/-- The reference each operation of `hostOps0_17` writes, in order. -/
abbrev hostOps0_17_W : List (Ref sig .tc) := [main_c_26, main_v106, main_v107, main_c_27, main_v108, main_v109, main_v110, main_v111, main_v112, main_cst_28]
theorem hostOps0_17_writes : (hostOps0_17 : List (HloOp τ sig (Elt F))).Forall fun op =>
    op.writes ⊆ (hostOps0_17_W.map (Proc.devRef (τ := τ) .tc)).toFinset := forall_writes_sub_of_map rfl

/-- The reference each operation of `hostOps0_18` writes, in order. -/
abbrev hostOps0_18_W : List (Ref sig .tc) := [main_call11_v0, main_call11_v1, main_v113]
theorem hostOps0_18_writes : (hostOps0_18 : List (HloOp τ sig (Elt F))).Forall fun op =>
    op.writes ⊆ (hostOps0_18_W.map (Proc.devRef (τ := τ) .tc)).toFinset := forall_writes_sub_of_map rfl

/-- The reference each operation of `hostOps0_19` writes, in order. -/
abbrev hostOps0_19_W : List (Ref sig .tc) := [main_c_29, main_v114, main_v115, main_c_30, main_v116, main_v117, main_v118, main_v119, main_v120, main_cst_31]
theorem hostOps0_19_writes : (hostOps0_19 : List (HloOp τ sig (Elt F))).Forall fun op =>
    op.writes ⊆ (hostOps0_19_W.map (Proc.devRef (τ := τ) .tc)).toFinset := forall_writes_sub_of_map rfl

/-- The reference each operation of `hostOps0_20` writes, in order. -/
abbrev hostOps0_20_W : List (Ref sig .tc) := [main_call12_v0, main_call12_v1, main_v121]
theorem hostOps0_20_writes : (hostOps0_20 : List (HloOp τ sig (Elt F))).Forall fun op =>
    op.writes ⊆ (hostOps0_20_W.map (Proc.devRef (τ := τ) .tc)).toFinset := forall_writes_sub_of_map rfl

/-- The references the lines before the loop write. -/
abbrev preW : List (Ref sig .tc) := hostOps0_W ++ hostOps0_1_W ++ hostOps0_2_W

/-- The references one trip writes. -/
abbrev bodyW : List (Ref sig .tc) :=
  while0Ops0_W ++ while0Ops0_1_W ++ while0Ops0_2_W ++ while0Ops0_3_W ++ while0Ops0_4_W ++ while0Ops0_5_W ++ while0Ops0_6_W

/-- The references the lines after the loop write. -/
abbrev postW : List (Ref sig .tc) :=
  hostOps0_3_W ++ hostOps0_4_W ++ hostOps0_5_W ++ hostOps0_6_W ++ hostOps0_7_W ++ hostOps0_8_W ++ hostOps0_9_W
    ++ hostOps0_10_W ++ hostOps0_11_W ++ hostOps0_12_W ++ hostOps0_13_W ++ hostOps0_14_W ++ hostOps0_15_W
    ++ hostOps0_16_W ++ hostOps0_17_W ++ hostOps0_18_W ++ hostOps0_19_W ++ hostOps0_20_W

/-- A buffer no line before the loop writes is as launched at the loop's entry. -/
theorem pre_keep (V0 : Valuation τ sig (Elt F)) (r : Ref sig .tc) (h : r ∉ preW) :
    afterL preI V0 (Proc.devRef .tc r) = V0 (Proc.devRef .tc r) := by
  simp only [preW, List.mem_append, not_or] at h
  simp only [preI, afterL_cons, afterL_nil]
  rw [after_of_writes_sub _ _ hostOps0_2_writes h.2, after_of_writes_sub _ _ hostOps0_1_writes h.1.2,
    after_of_writes_sub _ _ hostOps0_writes h.1.1]

/-- A buffer no line of the body writes comes through a trip. -/
theorem body_keep (V0 : Valuation τ sig (Elt F)) (r : Ref sig .tc) (h : r ∉ bodyW) :
    afterL bodyI V0 (Proc.devRef .tc r) = V0 (Proc.devRef .tc r) := by
  simp only [bodyW, List.mem_append, not_or] at h
  simp only [bodyI, afterL_cons, afterL_nil]
  rw [after_of_writes_sub _ _ while0Ops0_6_writes h.2, after_of_writes_sub _ _ while0Ops0_5_writes h.1.2,
    after_of_writes_sub _ _ while0Ops0_4_writes h.1.1.2, after_of_writes_sub _ _ while0Ops0_3_writes h.1.1.1.2,
    after_of_writes_sub _ _ while0Ops0_2_writes h.1.1.1.1.2, after_of_writes_sub _ _ while0Ops0_1_writes h.1.1.1.1.1.2,
    after_of_writes_sub _ _ while0Ops0_writes h.1.1.1.1.1.1]

/-- A buffer no line after the loop writes is at the end as the loop left it. -/
theorem post_keep (V0 : Valuation τ sig (Elt F)) (r : Ref sig .tc) (h : r ∉ postW) :
    afterL postI V0 (Proc.devRef .tc r) = V0 (Proc.devRef .tc r) := by
  simp only [postW, List.mem_append, not_or] at h
  obtain ⟨⟨⟨⟨⟨⟨⟨⟨⟨⟨⟨⟨⟨⟨⟨⟨⟨h3, h4⟩, h5⟩, h6⟩, h7⟩, h8⟩, h9⟩, h10⟩, h11⟩, h12⟩, h13⟩, h14⟩, h15⟩, h16⟩, h17⟩, h18⟩, h19⟩, h20⟩ := h
  simp only [postI, afterL_cons, afterL_nil]
  rw [after_of_writes_sub _ _ hostOps0_20_writes h20, after_of_writes_sub _ _ hostOps0_19_writes h19,
    after_of_writes_sub _ _ hostOps0_18_writes h18, after_of_writes_sub _ _ hostOps0_17_writes h17,
    after_of_writes_sub _ _ hostOps0_16_writes h16, after_of_writes_sub _ _ hostOps0_15_writes h15,
    after_of_writes_sub _ _ hostOps0_14_writes h14, after_of_writes_sub _ _ hostOps0_13_writes h13,
    after_of_writes_sub _ _ hostOps0_12_writes h12, after_of_writes_sub _ _ hostOps0_11_writes h11,
    after_of_writes_sub _ _ hostOps0_10_writes h10, after_of_writes_sub _ _ hostOps0_9_writes h9,
    after_of_writes_sub _ _ hostOps0_8_writes h8, after_of_writes_sub _ _ hostOps0_7_writes h7,
    after_of_writes_sub _ _ hostOps0_6_writes h6, after_of_writes_sub _ _ hostOps0_5_writes h5,
    after_of_writes_sub _ _ hostOps0_4_writes h4, after_of_writes_sub _ _ hostOps0_3_writes h3]

/-- A buffer neither the condition nor the body writes comes through any number of trips. -/
theorem loop_keep (c : Dev nD) (r : Ref sig .tc) (hb : r ∉ bodyW) (hc : r ∉ condOps_W) :
    ∀ k, atTrip condOps bodyI (entryContents preI m) k c (Proc.devRef .tc r) = entryContents preI m c (Proc.devRef .tc r)
  | 0 => rfl
  | k + 1 => by
    rw [atTrip_succ, body_keep _ r hb, after_of_writes_sub _ _ condOps_writes hc, loop_keep c r hb hc k]

/-- A buffer nothing writes ends as launched. -/
theorem final_keep (c : Dev nD) (r : Ref sig .tc) (h1 : r ∉ preW) (h2 : r ∉ bodyW) (h3 : r ∉ condOps_W) (h4 : r ∉ postW) :
    finalContents condOps preI bodyI postI 20000 m c (Proc.devRef .tc r) = m ((c.tc : Thread nD τ).loc r) := by
  refine (post_keep _ r h4).trans ?_
  rw [after_of_writes_sub _ _ condOps_writes h3, loop_keep m c r h2 h3]
  exact pre_keep _ r h1

/-- The reference has no semaphore, so every counter is at zero. -/
theorem sem_eq_zero (f : GSem nD τ sig → Int) : f = fun _ => 0 := by
  funext g
  obtain ⟨_, s⟩ := g
  cases s with
  | reg s => exact s.elim0
  | dma s => exact s.elim0

/-- The reference's run: every buffer at the end, and every counter at zero. -/
theorem run_main : θ_run (defs (F := F)) (onTc (τ := τ) (main (F := F))) ⟨m, fun _ => 0, ρ⟩
    (fun r => (∀ (c : Dev nD) (b : Ref sig .tc), (Proc.devRef .tc b : DevRef τ sig).isScoped = false →
      r.2.mem ((c.tc : Thread nD τ).loc b) = finalContents condOps preI bodyI postI 20000 m c (Proc.devRef .tc b))
      ∧ r.2.sem = fun _ => 0) :=
  (θ_run defs _ _).mono (fun _ h => ⟨h, sem_eq_zero _⟩) (run_fold m ρ)

/-- Every run ends with the arguments as they were and every counter at zero. -/
theorem frame : θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) ∧ r.2.sem = fun _ => 0) :=
  (θ_run defs _ _).mono (fun _ h => ⟨fun c =>
    ⟨(h.1 c main_arg0 rfl).trans (final_keep m c main_arg0 (by decide) (by decide) (by decide) (by decide)),
     (h.1 c main_arg1 rfl).trans (final_keep m c main_arg1 (by decide) (by decide) (by decide) (by decide)),
     (h.1 c main_arg2 rfl).trans (final_keep m c main_arg2 (by decide) (by decide) (by decide) (by decide))⟩, h.2⟩) (run_main m ρ)

end Cert.Proof.RI
-- ==== Proof.Math.Words.lean ====
/-
Facts about words and masks that both programs use: a least word, a one-bit word's two values, what a selection and a
comparison give on the extended reals.
-/
module

public import Idealize.ShloMosaic.PureOps.Ideal
public import Idealize.ShloMosaic.PureOps.Reduce

@[expose] public section

noncomputable section

namespace Cert.Proof.Words

open Idealize.ShloMosaic

theorem toInt_minsi (x y : BitVec 32) : (IntOp.minsi x y).toInt = min x.toInt y.toInt := by
  unfold IntOp.minsi
  split
  · rename_i h
    rw [min_eq_left (BitVec.slt_iff_toInt_lt.mp h).le]
  · rename_i h
    rw [min_eq_right (not_lt.mp fun h' => h (BitVec.slt_iff_toInt_lt.mpr h'))]

theorem toInt_fold {ι : Type} (s : Finset ι) (init : BitVec 32) (f : ι → BitVec 32) :
    (s.fold IntOp.minsi init f).toInt = s.fold min init.toInt fun i => (f i).toInt := by
  classical
  induction s using Finset.induction_on with
  | empty => rfl
  | insert a s h ih => rw [Finset.fold_insert h, Finset.fold_insert h, toInt_minsi, ih]

/-- The least word of a family, started from a word no smaller: the word that is attained and bounds the rest. -/
theorem fold_minsi_eq {ι : Type} (s : Finset ι) (init : BitVec 32) (f : ι → BitVec 32) (j : ι) (hj : j ∈ s)
    (hle : ∀ i ∈ s, (f j).toInt ≤ (f i).toInt) (hinit : (f j).toInt ≤ init.toInt) :
    s.fold IntOp.minsi init f = f j := by
  apply BitVec.eq_of_toInt_eq
  rw [toInt_fold]
  apply le_antisymm
  · exact (Finset.fold_min_le _).mpr (.inr ⟨j, hj, le_rfl⟩)
  · exact (Finset.le_fold_min _).mpr ⟨hinit, hle⟩

theorem toInt_ofNat {n : ℕ} (h : n < 2 ^ 31) : (BitVec.ofNat 32 n).toInt = n := by
  rw [BitVec.toInt_eq_toNat_cond, BitVec.toNat_ofNat, Nat.mod_eq_of_lt (by omega), if_pos (by omega)]

theorem ofNat_inj {a b : ℕ} (ha : a < 2 ^ 31) (hb : b < 2 ^ 31) : BitVec.ofNat 32 a = BitVec.ofNat 32 b ↔ a = b := by
  constructor
  · intro h
    have := congrArg BitVec.toInt h
    rw [toInt_ofNat ha, toInt_ofNat hb] at this
    exact_mod_cast this
  · rintro rfl; rfl

theorem bit_cases (b : BitVec 1) : b = 0#1 ∨ b = 1#1 := by
  revert b; decide

theorem ofBool_one {p : Bool} : BitVec.ofBool p = 1#1 ↔ p = true := by cases p <;> simp

theorem and_one {a b : BitVec 1} : a &&& b = 1#1 ↔ a = 1#1 ∧ b = 1#1 := by
  rcases bit_cases a with rfl | rfl <;> rcases bit_cases b with rfl | rfl <;> simp

theorem or_one {a b : BitVec 1} : a ||| b = 1#1 ↔ a = 1#1 ∨ b = 1#1 := by
  rcases bit_cases a with rfl | rfl <;> rcases bit_cases b with rfl | rfl <;> simp

theorem eq_of_one_iff {a b : BitVec 1} (h : a = 1#1 ↔ b = 1#1) : a = b := by
  rcases bit_cases a with rfl | rfl <;> rcases bit_cases b with rfl | rfl <;> simp_all

theorem andi_one {a b : BitVec 1} : IntOp.andi a b = 1#1 ↔ a = 1#1 ∧ b = 1#1 := and_one
theorem ori_one {a b : BitVec 1} : IntOp.ori a b = 1#1 ↔ a = 1#1 ∨ b = 1#1 := or_one
theorem noti_one {a : BitVec 1} : ~~~ a = 1#1 ↔ ¬ a = 1#1 := by
  rcases bit_cases a with rfl | rfl <;> simp

theorem cmpi_eq_one {x y : BitVec 32} : IntOp.cmpi .eq x y = 1#1 ↔ x = y := by
  unfold IntOp.cmpi; rw [ofBool_one]; simp
theorem cmpi_slt_one {x y : BitVec 32} : IntOp.cmpi .slt x y = 1#1 ↔ x.toInt < y.toInt := by
  unfold IntOp.cmpi; rw [ofBool_one]; simp [BitVec.slt_iff_toInt_lt]

theorem cmp_ogt {x y : EReal} : Ideal.cmp .ogt x y = 1#1 ↔ y < x := by
  unfold Ideal.cmp; rw [ofBool_one]; simp
theorem cmp_oge {x y : EReal} : Ideal.cmp .oge x y = 1#1 ↔ y ≤ x := by
  unfold Ideal.cmp; rw [ofBool_one]; simp
theorem cmp_olt {x y : EReal} : Ideal.cmp .olt x y = 1#1 ↔ x < y := by
  unfold Ideal.cmp; rw [ofBool_one]; simp
theorem cmp_oeq {x y : EReal} : Ideal.cmp .oeq x y = 1#1 ↔ x = y := by
  unfold Ideal.cmp; rw [ofBool_one]; simp

/-- A scalar selection, and a selection of vectors at an index. -/
theorem scalar_sel {α : Type} (c : BitVec 1) (x y : α) : Scalar.select c x y = if c = 1#1 then x else y := rfl

end Cert.Proof.Words
-- ==== Proof.Math.Greedy.lean ====
/-
The greedy merging that both programs perform, as sets of positions: at every step the first open position takes
with it the open positions it merges with.
-/
module

public import Idealize.ShloMosaic.PureOps.Ideal
public import Mathlib.Data.Finset.Max
public import Mathlib.Data.Fintype.Card
public import Mathlib.Data.Fintype.BigOperators

@[expose] public section

noncomputable section

namespace Cert.Proof.Greedy

open Classical in
/-- The first position of a set, and position 0 for the empty set. -/
def head {n : ℕ} [NeZero n] (A : Finset (Fin n)) : Fin n := if h : A.Nonempty then A.min' h else 0

open Classical in
/-- The positions of `A` that its first position merges with. -/
def taken {n : ℕ} [NeZero n] (mg : Fin n → Fin n → Prop) (A : Finset (Fin n)) : Finset (Fin n) :=
  A.filter fun p => mg (head A) p

/-- The open positions after `k` steps. -/
def opened {n : ℕ} [NeZero n] (mg : Fin n → Fin n → Prop) : ℕ → Finset (Fin n)
  | 0 => Finset.univ
  | k + 1 => opened mg k \ taken mg (opened mg k)

/-- The positions step `k` takes. -/
def group {n : ℕ} [NeZero n] (mg : Fin n → Fin n → Prop) (k : ℕ) : Finset (Fin n) := taken mg (opened mg k)

variable {n : ℕ} [NeZero n] (mg : Fin n → Fin n → Prop)

theorem head_mem {A : Finset (Fin n)} (h : A.Nonempty) : head A ∈ A := by
  unfold head; rw [dif_pos h]; exact A.min'_mem h

theorem head_le {A : Finset (Fin n)} {p : Fin n} (hp : p ∈ A) : head A ≤ p := by
  unfold head; rw [dif_pos ⟨p, hp⟩]; exact A.min'_le p hp

theorem taken_subset (A : Finset (Fin n)) : taken mg A ⊆ A := by
  classical
  unfold taken; exact Finset.filter_subset _ _

theorem mem_taken {A : Finset (Fin n)} {p : Fin n} : p ∈ taken mg A ↔ p ∈ A ∧ mg (head A) p := by
  classical
  unfold taken; simp

theorem mem_group {k : ℕ} {p : Fin n} :
    p ∈ group mg k ↔ p ∈ opened mg k ∧ mg (head (opened mg k)) p := mem_taken mg

theorem mem_opened_succ {k : ℕ} {p : Fin n} :
    p ∈ opened mg (k + 1) ↔ p ∈ opened mg k ∧ ¬ mg (head (opened mg k)) p := by
  show p ∈ opened mg k \ taken mg (opened mg k) ↔ _
  rw [Finset.mem_sdiff, mem_taken]; tauto

theorem opened_succ_subset (k : ℕ) : opened mg (k + 1) ⊆ opened mg k := Finset.sdiff_subset

theorem opened_anti {j k : ℕ} (h : j ≤ k) : opened mg k ⊆ opened mg j := by
  induction k, h using Nat.le_induction with
  | base => exact Finset.Subset.refl _
  | succ k _ ih => exact (opened_succ_subset mg k).trans ih

theorem group_empty_of_opened_empty {k : ℕ} (h : opened mg k = ∅) : group mg k = ∅ :=
  Finset.subset_empty.mp (h ▸ taken_subset mg (opened mg k))

variable (hself : ∀ p, mg p p)
include hself

theorem head_mem_group {k : ℕ} (h : (opened mg k).Nonempty) : head (opened mg k) ∈ group mg k :=
  (mem_group mg).mpr ⟨head_mem h, hself _⟩

theorem card_opened (k : ℕ) : (opened mg k).card + k ≤ n ∨ opened mg k = ∅ := by
  induction k with
  | zero => left; simp [opened]
  | succ k ih =>
    rcases Finset.eq_empty_or_nonempty (opened mg k) with h | h
    · right; exact Finset.subset_empty.mp (h ▸ opened_succ_subset mg k)
    · rcases ih with ih | ih
      · left
        have hlt : (opened mg (k + 1)).card < (opened mg k).card := by
          refine Finset.card_lt_card ⟨opened_succ_subset mg k, fun hs => ?_⟩
          have := hs (head_mem h)
          rw [mem_opened_succ] at this
          exact this.2 (hself _)
        omega
      · exact absurd ih h.ne_empty

theorem opened_last : opened mg n = ∅ := by
  rcases card_opened mg hself n with h | h
  · exact Finset.card_eq_zero.mp (by omega)
  · exact h

omit hself in
/-- How many steps find an open position. -/
def steps : ℕ := by
  classical
  exact if h : ∃ k, opened mg k = ∅ then Nat.find h else 0

theorem exists_empty : ∃ k, opened mg k = ∅ := ⟨n, opened_last mg hself⟩

theorem opened_steps : opened mg (steps mg) = ∅ := by
  classical
  unfold steps; rw [dif_pos (exists_empty mg hself)]; exact Nat.find_spec (exists_empty mg hself)

theorem steps_le : steps mg ≤ n := by
  classical
  unfold steps; rw [dif_pos (exists_empty mg hself)]; exact Nat.find_min' _ (opened_last mg hself)

theorem steps_pos : 0 < steps mg := by
  rcases Nat.eq_zero_or_pos (steps mg) with h | h
  · have := opened_steps mg hself
    rw [h] at this
    have h0 : (0 : Fin n) ∈ opened mg 0 := by simp [opened]
    rw [this] at h0; simp at h0
  · exact h

theorem nonempty_iff {k : ℕ} : (opened mg k).Nonempty ↔ k < steps mg := by
  classical
  constructor
  · intro h
    by_contra hk
    have := opened_anti mg (not_lt.mp hk)
    rw [opened_steps mg hself] at this
    exact h.ne_empty (Finset.subset_empty.mp this)
  · intro h
    rw [Finset.nonempty_iff_ne_empty]
    intro he
    unfold steps at h; rw [dif_pos (exists_empty mg hself)] at h
    exact Nat.find_min (exists_empty mg hself) h he

theorem lt_steps_of_mem {k : ℕ} {p : Fin n} (h : p ∈ group mg k) : k < steps mg :=
  (nonempty_iff mg hself).mp ⟨p, ((mem_group mg).mp h).1⟩

omit hself in
theorem group_disjoint {j k : ℕ} {p : Fin n} (hj : p ∈ group mg j) (hk : p ∈ group mg k) : j = k := by
  rcases lt_trichotomy j k with h | h | h
  · exact absurd ((mem_group mg).mp hj).2
      ((mem_opened_succ mg).mp (opened_anti mg h ((mem_group mg).mp hk).1)).2
  · exact h
  · exact absurd ((mem_group mg).mp hk).2
      ((mem_opened_succ mg).mp (opened_anti mg h ((mem_group mg).mp hj).1)).2

omit hself in
/-- A position no longer open after `t` steps was taken by one of them. -/
theorem exists_group {t : ℕ} {p : Fin n} (h : p ∉ opened mg t) : ∃ j < t, p ∈ group mg j := by
  induction t with
  | zero => exact absurd (by simp [opened]) h
  | succ t ih =>
    by_cases hp : p ∈ opened mg t
    · refine ⟨t, Nat.lt_succ_self t, (mem_group mg).mpr ⟨hp, ?_⟩⟩
      by_contra hm
      exact h ((mem_opened_succ mg).mpr ⟨hp, hm⟩)
    · obtain ⟨j, hj, hm⟩ := ih hp
      exact ⟨j, hj.trans (Nat.lt_succ_self t), hm⟩

omit hself in
theorem head_mono {j k : ℕ} (h : j ≤ k) (hk : (opened mg k).Nonempty) :
    head (opened mg j) ≤ head (opened mg k) := head_le (opened_anti mg h (head_mem hk))

end Cert.Proof.Greedy
-- ==== Proof.Math.Sorted.lean ====
/-
A stable sort of positions by a key: of two sorted positions the earlier one has the smaller key, or the same key and
the smaller source. A key that is already in order is left alone.
-/
module

public import Idealize.ShloMosaic.PureOps.Ideal
public import Idealize.ShloMosaic.Lib.SortFacts

@[expose] public section

noncomputable section

namespace Cert.Proof.Sorted

open Idealize.ShloMosaic

variable {n : ℕ} {K : Type} [LinearOrder K]

/-- The order a stable sort by `key` puts sources in. -/
def Before (key : Fin n → K) (a b : Fin n) : Prop := key a < key b ∨ key a = key b ∧ a < b

theorem Before.trans {key : Fin n → K} {a b c : Fin n} (h : Before key a b) (h' : Before key b c) : Before key a c := by
  rcases h with h | ⟨h, hl⟩ <;> rcases h' with h' | ⟨h', hl'⟩
  · exact .inl (h.trans h')
  · exact .inl (h' ▸ h)
  · exact .inl (h ▸ h')
  · exact .inr ⟨h.trans h', hl.trans hl'⟩

theorem pairwise_insert (key : Fin n → K) (before : Fin n → Fin n → Bool)
    (hb : ∀ a b, before a b = true ↔ key a < key b) (a : Fin n) (l : List (Fin n)) (hl : l.Pairwise (Before key))
    (ha : ∀ b ∈ l, a < b) : (insertBefore before a l).Pairwise (Before key) := by
  induction l with
  | nil => exact List.pairwise_singleton _ _
  | cons b l ih =>
    rw [List.pairwise_cons] at hl
    unfold insertBefore
    split
    · rename_i h
      rw [hb] at h
      rw [List.pairwise_cons]
      refine ⟨fun c hc => ?_, ih hl.2 fun c hc => ha c (List.mem_cons_of_mem b hc)⟩
      rcases List.mem_cons.mp ((perm_insertBefore before a l).mem_iff.mp hc) with rfl | hc
      · exact .inl h
      · exact hl.1 c hc
    · rename_i h
      rw [hb, not_lt] at h
      have hab : Before key a b := by
        rcases h.lt_or_eq with h | h
        · exact .inl h
        · exact .inr ⟨h, ha b List.mem_cons_self⟩
      rw [List.pairwise_cons]
      refine ⟨fun c hc => ?_, List.pairwise_cons.mpr hl⟩
      rcases List.mem_cons.mp hc with rfl | hc
      · exact hab
      · exact hab.trans (hl.1 c hc)

theorem pairwise_stable (key : Fin n → K) (before : Fin n → Fin n → Bool)
    (hb : ∀ a b, before a b = true ↔ key a < key b) (l : List (Fin n)) (hl : l.Pairwise (· < ·)) :
    (stableSort before l).Pairwise (Before key) := by
  induction l with
  | nil => exact List.Pairwise.nil
  | cons a l ih =>
    rw [List.pairwise_cons] at hl
    unfold stableSort
    exact pairwise_insert key before hb a _ (ih hl.2) fun b h => hl.1 b ((perm_stableSort before l).mem_iff.mp h)

/-- Sorted positions stand in the order of their sources' keys, ties in the order of the sources. -/
theorem sortedFrom_before (key : Fin n → K) (before : Fin n → Fin n → Bool)
    (hb : ∀ a b, before a b = true ↔ key a < key b) {p q : Fin n} (h : p < q) :
    Before key (sortedFrom before p) (sortedFrom before q) := by
  have hp := List.pairwise_iff_get.mp (pairwise_stable key before hb (List.finRange n) (List.pairwise_lt_finRange n))
  exact hp _ _ (by exact h)

theorem sortedFrom_bijective (before : Fin n → Fin n → Bool) : Function.Bijective (sortedFrom before) :=
  ⟨sortedFrom_injective before, sortedFrom_surjective before⟩

/-- A key in order already: the sort moves nothing. -/
theorem sortedFrom_of_mono (key : Fin n → K) (before : Fin n → Fin n → Bool)
    (hb : ∀ a b, before a b = true ↔ key a < key b) (hm : Monotone key) (p : Fin n) : sortedFrom before p = p := by
  have hs : StrictMono (sortedFrom before) := fun a b h => by
    rcases sortedFrom_before key before hb h with h | h
    · exact lt_of_not_ge fun hge => absurd (hm hge) (not_le.mpr h)
    · exact h.2
  have e : StrictMono.orderIsoOfSurjective _ hs (sortedFrom_surjective before) = OrderIso.refl (Fin n) :=
    Subsingleton.elim _ _
  exact congrArg (fun f : Fin n ≃o Fin n => f p) e

end Cert.Proof.Sorted
-- ==== Proof.Math.Spec.lean ====
/-
What vote-style suppression computes, on the extended reals: the boxes shifted apart by their labels, the overlap that
merges two boxes, the clusters taken greedily in the order of the scores, and the three results.
-/
module

public import proofs.«01_k».proof.Proof.Math.Greedy
public import proofs.«01_k».proof.Proof.Math.Sorted
public import Idealize.ShloMosaic.Lib.IdealHost

@[expose] public section

noncomputable section

namespace Cert.Proof.Spec

open Idealize.ShloMosaic Cert.Proof.Greedy Cert.Proof.Sorted

/-- The number of boxes. -/
abbrev N : ℕ := 20000

/-- The arguments: a box's four coordinates, its score and its label. -/
structure Args where
  box : Fin N → Fin 4 → EReal
  score : Fin N → EReal
  label : Fin N → BitVec 32

/-- What the certificate assumes of the arguments: finite boxes with positive sides, a largest coordinate that is not
    negative, and scores and labels that are not negative. -/
structure Args.Good (a : Args) : Prop where
  fin_lt : ∀ i d, a.box i d < ⊤
  fin_gt : ∀ i d, ⊥ < a.box i d
  x_lt : ∀ i, a.box i 0 < a.box i 2
  y_lt : ∀ i, a.box i 1 < a.box i 3
  max_nonneg : ∃ i d, 0 ≤ a.box i d
  score_nonneg : ∀ i, 0 ≤ a.score i
  label_nonneg : ∀ i, 0 ≤ (a.label i).toInt

namespace Args

variable (a : Args)

/-- A label as a number. -/
def lab (i : Fin N) : EReal := (((a.label i).toInt : ℝ) : EReal)

/-- The largest coordinate, plus one. -/
def shift : EReal := (Finset.univ.sup fun i : Fin N => Finset.univ.sup fun d : Fin 4 => a.box i d) + 1

/-- A box shifted by its label. -/
def co (d : Fin 4) (i : Fin N) : EReal := a.box i d + a.lab i * a.shift

/-- Its area. -/
def area (i : Fin N) : EReal := (a.co 2 i - a.co 0 i) * (a.co 3 i - a.co 1 i)

/-- The overlap of two shifted boxes. -/
def inter (h i : Fin N) : EReal :=
  max (min (a.co 2 h) (a.co 2 i) - max (a.co 0 h) (a.co 0 i)) 0
    * max (min (a.co 3 h) (a.co 3 i) - max (a.co 1 h) (a.co 1 i)) 0

/-- Box `h` takes box `i`: their overlap over their union reaches the threshold. -/
def merges (h i : Fin N) : Prop :=
  Ideal.ofBits .f32 0x3F266666#32 ≤ Ideal.div (a.inter h i) (a.area h + a.area i - a.inter h i)

/-- The order of the scores, the largest first: which box stands at a sorted position. -/
def sigma : Fin N → Fin N := sortedFrom fun i j => decide (-a.score i < -a.score j)

/-- The merge relation on sorted positions. -/
def mg (p q : Fin N) : Prop := a.merges (a.sigma p) (a.sigma q)

/-- The number of clusters. -/
def clusters : ℕ := steps a.mg

/-- Cluster `k`, as sorted positions. -/
def cluster (k : ℕ) : Finset (Fin N) := group a.mg k

/-- The score-weighted sum of a coordinate over a cluster, its sum of scores and its largest label. -/
def sumCo (k : ℕ) (d : Fin 4) : EReal := ∑ p ∈ a.cluster k, a.co d (a.sigma p) * a.score (a.sigma p)
def sumScore (k : ℕ) : EReal := ∑ p ∈ a.cluster k, a.score (a.sigma p)
def maxLab (k : ℕ) : EReal := (a.cluster k).sup fun p => a.lab (a.sigma p)
/-- The score of a cluster's head. -/
def topScore (k : ℕ) : EReal := a.score (a.sigma (head (opened a.mg k)))

open Classical in
/-- The three results at cluster `k`. -/
def outBox (k : ℕ) (d : Fin 4) : EReal :=
  if k < a.clusters then Ideal.div (a.sumCo k d) (a.sumScore k) - a.maxLab k * a.shift else 0
open Classical in
def outScore (k : ℕ) : EReal := if k < a.clusters then a.topScore k else 0
open Classical in
def outLab (k : ℕ) : EReal := if k < a.clusters then a.maxLab k else -1

variable {a}

theorem sigma_bij : Function.Bijective a.sigma := sortedFrom_bijective _

theorem sigma_before {p q : Fin N} (h : p < q) : Before (fun i => -a.score i) (a.sigma p) (a.sigma q) :=
  sortedFrom_before _ _ (fun _ _ => by simp) h

theorem sigma_score {p q : Fin N} (h : p ≤ q) : a.score (a.sigma q) ≤ a.score (a.sigma p) := by
  rcases h.lt_or_eq with h | rfl
  · rcases sigma_before (a := a) h with h | h
    · exact (EReal.neg_lt_neg_iff.mp h).le
    · exact (neg_inj.mp h.1).ge
  · exact le_rfl

theorem lab_nonneg (g : a.Good) (i : Fin N) : 0 ≤ a.lab i := by
  unfold lab
  exact_mod_cast g.label_nonneg i

theorem lab_lt (i : Fin N) : a.lab i < ⊤ := EReal.coe_lt_top _
theorem lab_gt (i : Fin N) : ⊥ < a.lab i := EReal.bot_lt_coe _

theorem exists_box_real (g : a.Good) (i : Fin N) (d : Fin 4) : ∃ r : ℝ, a.box i d = r :=
  ⟨(a.box i d).toReal, (EReal.coe_toReal (g.fin_lt i d).ne (g.fin_gt i d).ne').symm⟩

theorem exists_shift_real (g : a.Good) : ∃ r : ℝ, a.shift = r := by
  have : ∃ i d, (Finset.univ.sup fun i : Fin N => Finset.univ.sup fun d : Fin 4 => a.box i d) = a.box i d := by
    obtain ⟨i, -, hi⟩ := Finset.exists_mem_eq_sup (Finset.univ : Finset (Fin N)) ⟨0, Finset.mem_univ 0⟩
      (fun i => Finset.univ.sup fun d : Fin 4 => a.box i d)
    obtain ⟨d, -, hd⟩ := Finset.exists_mem_eq_sup (Finset.univ : Finset (Fin 4)) ⟨0, Finset.mem_univ 0⟩ (a.box i)
    exact ⟨i, d, hi.trans hd⟩
  obtain ⟨i, d, h⟩ := this
  obtain ⟨r, hr⟩ := exists_box_real g i d
  exact ⟨r + 1, by unfold shift; rw [h, hr]; rfl⟩

/-- The threshold is at most one. -/
theorem thr_le : Ideal.ofBits .f32 0x3F266666#32 ≤ 1 := by
  rw [show (1 : EReal) = ((1 : ℝ) : EReal) by norm_cast]
  simp only [Ideal.ofBits, Ideal.ieee]
  simp [-EReal.coe_mul]
  norm_num
  exact (EReal.coe_le_coe_iff (x := 5452595 / 8388608) (y := 1)).mpr (by norm_num)

theorem minus_one : Ideal.ofBits .f32 0xBF800000#32 = -1 := by
  rw [show (-1 : EReal) = ((-(1 : ℝ) : ℝ) : EReal) by rw [EReal.coe_neg]; rfl]
  simp [Ideal.ofBits, Ideal.ieee, -EReal.coe_mul, -EReal.coe_neg]; norm_num

theorem minus_inf : Ideal.ofBits .f32 0xFF800000#32 = ⊥ := by
  simp [Ideal.ofBits, Ideal.ieee]

theorem plus_inf : Ideal.ofBits .f32 0x7F800000#32 = ⊤ := by
  simp [Ideal.ofBits, Ideal.ieee]

theorem real_shift (b l s : ℝ) : (b : EReal) + (l : EReal) * (s : EReal) = ((b + l * s : ℝ) : EReal) := by
  rw [← EReal.coe_mul, ← EReal.coe_add]

theorem real_side (b c t : ℝ) : ((c + t : ℝ) : EReal) - ((b + t : ℝ) : EReal) = ((c - b : ℝ) : EReal) := by
  rw [← EReal.coe_sub]; congr 1; ring

theorem real_quot (r : ℝ) (hpos : 0 < r) : Ideal.div (r : EReal) ((r : EReal) + r - r) = 1 := by
  rw [← EReal.coe_add, ← EReal.coe_sub, add_sub_cancel_right]
  unfold Ideal.div
  rw [if_neg (by exact_mod_cast hpos.ne'), ← EReal.coe_inv, ← EReal.coe_mul, mul_inv_cancel₀ hpos.ne']
  rfl

theorem real_quot_prod (x y : ℝ) (hx : 0 < x) (hy : 0 < y) :
    Ideal.div (max (x : EReal) 0 * max (y : EReal) 0)
      ((x : EReal) * y + (x : EReal) * y - max (x : EReal) 0 * max (y : EReal) 0) = 1 := by
  rw [max_eq_left (EReal.coe_nonneg.mpr hx.le), max_eq_left (EReal.coe_nonneg.mpr hy.le), ← EReal.coe_mul]
  exact real_quot _ (mul_pos hx hy)

/-- A box takes itself: its sides are positive and finite, so the quotient is one. -/
theorem merges_self (g : a.Good) (i : Fin N) : a.merges i i := by
  obtain ⟨s, hs⟩ := exists_shift_real g
  obtain ⟨b0, h0⟩ := exists_box_real g i 0
  obtain ⟨b1, h1⟩ := exists_box_real g i 1
  obtain ⟨b2, h2⟩ := exists_box_real g i 2
  obtain ⟨b3, h3⟩ := exists_box_real g i 3
  have hx : b0 < b2 := EReal.coe_lt_coe_iff.mp (h0 ▸ h2 ▸ g.x_lt i)
  have hy : b1 < b3 := EReal.coe_lt_coe_iff.mp (h1 ▸ h3 ▸ g.y_lt i)
  have e : ∀ d (b : ℝ), a.box i d = b → a.co d i = ((b + ((a.label i).toInt : ℝ) * s : ℝ) : EReal) := fun d b h => by
    unfold co lab; rw [h, hs]; exact real_shift _ _ _
  unfold merges inter area
  rw [min_self, max_self, min_self, max_self, e 0 b0 h0, e 1 b1 h1, e 2 b2 h2, e 3 b3 h3, real_side, real_side,
    real_quot_prod _ _ (sub_pos.mpr hx) (sub_pos.mpr hy)]
  exact thr_le

theorem mg_self (g : a.Good) (p : Fin N) : a.mg p p := merges_self g _

end Args

end Cert.Proof.Spec
-- ==== Proof.KI.Payloads.lean ====
/-
The kernel's payloads read at an index on the extended reals: each whole-plane reduction is a sum, a supremum or a least
word over the plane's indices.
-/
module

public import proofs.«01_k».proof.Proof.PI.Run
public import proofs.«01_k».proof.Proof.Math.Words
public import proofs.«01_k».proof.Proof.Math.Spec
public import Idealize.ShloMosaic.Lib.Pointwise.Tactic

@[expose] public section

noncomputable section

namespace Cert.Proof.KI

open Cert.KernelIdeal Cert.KernelIdeal.Gen Cert.Proof.Words
open Idealize.ShloMosaic

/-- A selection at an index. -/
theorem sel {s : Shape} {α : Type} (c : IVec s 1) (x y : s.Idx → α) (j : s.Idx) :
    select c x y j = if c j = 1#1 then x j else y j := rfl

/-- The zero plane. -/
theorem zero_plane {s : Shape} (j : s.Idx) :
    broadcast s (FloatOps.ofBits .f32 0x00000000#32 : Ideal .f32) j = (0 : EReal) := Ideal.ofBits_zero_f32

instance : Subsingleton S1.Idx := ⟨fun a b => funext fun x => Fin.ext (by
  have h : S1.size x = 1 := by fin_cases x; rfl
  have := (a x).isLt; have := (b x).isLt; omega)⟩

/-- The sum of a plane. -/
theorem sum_total (v : FVec Ideal S160x128 .f32) :
    extractAt ![0, 0, 0] (shapeCast S1x1x1 (multiReduction .add [1, 2] S1
      (shapeCast S1x160x128 v shapeCasts_S160x128_S1x160x128) 0x00000000#32 reduces_S1x160x128_S1 (.inl rfl) rfl)
      shapeCasts_S1_S1x1x1) inpos_S1x1x1_p0_0_0 = (∑ j : S160x128.Idx, v j : EReal) := by
  have h := fun j => Ideal.multiReduction_add_total (shapeCast S1x160x128 v shapeCasts_S160x128_S1x160x128)
    0x00000000#32 reduces_S1x160x128_S1 (by intro b; fin_cases b; rfl) (.inl rfl) rfl j
  unfold extractAt shapeCast at *
  refine (h _).trans ?_
  exact Equiv.sum_comp (Shape.reshapeEquiv shapeCasts_S160x128_S1x160x128) v

/-- The largest element of a plane. -/
theorem max_total (v : FVec Ideal S160x128 .f32) :
    extractAt ![0, 0, 0] (shapeCast S1x1x1 (multiReduction .maximumf [1, 2] S1
      (shapeCast S1x160x128 v shapeCasts_S160x128_S1x160x128) 0xFF800000#32 reduces_S1x160x128_S1 (.inl rfl) rfl)
      shapeCasts_S1_S1x1x1) inpos_S1x1x1_p0_0_0 = (Finset.univ.sup v : EReal) := by
  have h := fun j => multiReduction_maximumf_eq_fold (shapeCast S1x160x128 v shapeCasts_S160x128_S1x160x128)
    0xFF800000#32 reduces_S1x160x128_S1 (.inl rfl) rfl j
  unfold extractAt
  rw [shapeCast]
  refine (h _).trans ?_
  rw [Finset.filter_true_of_mem fun i _ => Subsingleton.elim _ _]
  rw [show (FloatOps.ofBits .f32 0xFF800000#32 : Ideal .f32) = (⊥ : EReal) from Spec.Args.minus_inf]
  show Finset.univ.sup (fun i => v (Shape.reshapeEquiv shapeCasts_S160x128_S1x160x128 i)) = _
  rw [← Finset.univ_map_equiv_to_embedding (Shape.reshapeEquiv shapeCasts_S160x128_S1x160x128).symm, Finset.sup_map]
  simp [Function.comp_def]

/-- The least word of a plane. -/
theorem min_total (v : IVec S160x128 32) (j : S160x128.Idx) (hle : ∀ i, (v j).toInt ≤ (v i).toInt) :
    extractAt ![0, 0, 0] (shapeCast S1x1x1 (multiReductionI .minsi [1, 2] S1
      (shapeCast S1x160x128 v shapeCasts_S160x128_S1x160x128) 2147483647#32 reduces_S1x160x128_S1 rfl)
      shapeCasts_S1_S1x1x1) inpos_S1x1x1_p0_0_0 = v j := by
  have h := fun j => multiReductionI_eq_fold .minsi (shapeCast S1x160x128 v shapeCasts_S160x128_S1x160x128)
    2147483647#32 reduces_S1x160x128_S1 rfl j
  unfold extractAt
  rw [shapeCast]
  refine (h _).trans ?_
  rw [Finset.filter_true_of_mem fun i _ => Subsingleton.elim _ _]
  show Finset.univ.fold IntOp.minsi _ (fun i => v (Shape.reshapeEquiv shapeCasts_S160x128_S1x160x128 i)) = _
  refine (fold_minsi_eq Finset.univ 2147483647#32 (fun i => v (Shape.reshapeEquiv shapeCasts_S160x128_S1x160x128 i))
    ((Shape.reshapeEquiv shapeCasts_S160x128_S1x160x128).symm j) (Finset.mem_univ _) (fun i _ => ?_) ?_).trans ?_
  · simpa using hle _
  · have := BitVec.toInt_le (x := v j)
    simp at this ⊢
    omega
  · simp

theorem scalar_oge (x : Ideal .f32) :
    Scalar.cmpf .oge x (FloatOps.ofBits .f32 0x00000000#32) = 1#1 ↔ (0 : EReal) ≤ x := by
  rw [show (FloatOps.ofBits .f32 0x00000000#32 : Ideal .f32) = (0 : EReal) from Ideal.ofBits_zero_f32]
  exact cmp_oge

theorem scalar_subf (x y : Ideal .f32) : Scalar.subf x y = (x - y : EReal) := rfl

theorem word_eq {s : Shape} (v : IVec s 32) (c : BitVec 32) (j : s.Idx) :
    cmpi .eq v (broadcast s c) j = IntOp.cmpi .eq (v j) c := rfl

theorem float_oeq (x y : Ideal .f32) : FloatOps.cmpf CmpFPredicate.oeq x y = 1#1 ↔ (x : EReal) = y := cmp_oeq
theorem float_oge (x y : Ideal .f32) : FloatOps.cmpf CmpFPredicate.oge x y = 1#1 ↔ (y : EReal) ≤ x := cmp_oge
theorem float_ogt (x y : Ideal .f32) : FloatOps.cmpf CmpFPredicate.ogt x y = 1#1 ↔ (y : EReal) < x := cmp_ogt

variable (v9 v20 v23 v26 v29 v32 u : FVec Ideal S160x128 .f32) (v37 : IVec S160x128 32) (w : BitVec 32)

theorem pay11_eq : k0_pay11 v9 u = (Finset.univ.sup (k0_pay10 v9 u) : EReal) := max_total _

/-- The sum of a plane under the head's mask. -/
def picked (v : FVec Ideal S160x128 .f32) : EReal :=
  ∑ j : S160x128.Idx, select (k0_pay12 v9 v37 w u) v
    (broadcast S160x128 (FloatOps.ofBits .f32 0x00000000#32 : Ideal .f32)) j

theorem pay13_eq : k0_pay13 v9 v20 v37 w u = picked v9 u v37 w v20 := sum_total _
theorem pay14_eq : k0_pay14 v9 v23 v37 w u = picked v9 u v37 w v23 := sum_total _
theorem pay15_eq : k0_pay15 v9 v26 v37 w u = picked v9 u v37 w v26 := sum_total _
theorem pay16_eq : k0_pay16 v9 v29 v37 w u = picked v9 u v37 w v29 := sum_total _
theorem pay17_eq : k0_pay17 v9 v20 v26 v37 w u = (k0_pay15 v9 v26 v37 w u - k0_pay13 v9 v20 v37 w u : EReal) := by
  unfold k0_pay17; exact scalar_subf _ _
theorem pay18_eq : k0_pay18 v9 v23 v29 v37 w u = (k0_pay16 v9 v29 v37 w u - k0_pay14 v9 v23 v37 w u : EReal) := by
  unfold k0_pay18; exact scalar_subf _ _

theorem cand_one (i : S160x128.Idx) :
    andi (k0_pay9 u) (cmpf .oeq (k0_pay10 v9 u) (broadcast S160x128 (k0_pay11 v9 u))) i = 1#1
      ↔ k0_pay9 u i = 1#1 ∧ (k0_pay10 v9 u i : EReal) = k0_pay11 v9 u := by
  generalize k0_pay11 v9 u = t
  generalize k0_pay10 v9 u = r
  generalize k0_pay9 u = z
  pointwise
  rw [andi_one, float_oeq]

theorem pay12_eq (c : BitVec 32) (j : S160x128.Idx)
    (h : extractAt ![0, 0, 0] (shapeCast S1x1x1 (multiReductionI .minsi [1, 2] S1
      (shapeCast S1x160x128 (select (andi (k0_pay9 u) (cmpf .oeq (k0_pay10 v9 u) (broadcast S160x128 (k0_pay11 v9 u))))
      v37 (broadcast S160x128 w)) shapeCasts_S160x128_S1x160x128) 2147483647#32 reduces_S1x160x128_S1 rfl)
      shapeCasts_S1_S1x1x1) inpos_S1x1x1_p0_0_0 = c) :
    k0_pay12 v9 v37 w u j = IntOp.cmpi .eq (v37 j) c := by
  unfold k0_pay12
  dsimp only
  rw [h, word_eq]

theorem pay7_eq (z : IVec S160x128 1) (j : S160x128.Idx) :
    k0_pay7 u z j = if z j = 1#1 then (0 : EReal) else u j := by
  unfold k0_pay7
  rw [sel]
  exact if_congr Iff.rfl (zero_plane j) rfl

theorem pay19_one (z : IVec S160x128 1) (l : BitVec 1) (a b c d e f : Ideal .f32) (j : S160x128.Idx) :
    k0_pay19 v20 v23 v26 v29 v32 z l a b c d e f j = 1#1
      ↔ Ideal.ofBits .f32 0x3F266666#32
          ≤ Ideal.div (max (min c (v26 j) - max a (v20 j)) 0 * max (min d (v29 j) - max b (v23 j)) 0)
              (e * f + v32 j - max (min c (v26 j) - max a (v20 j)) 0 * max (min d (v29 j) - max b (v23 j)) 0)
        ∧ z j = 1#1 ∧ l = 1#1 := by
  pointwise [k0_pay19]
  rw [andi_one, andi_one, float_oge, and_assoc]

end Cert.Proof.KI
-- ==== Proof.KI.Trip.lean ====
/-
One trip of the kernel's loop, read as mathematics: from the boxes not taken after `k` clusters it finds the head, the
boxes the head takes, and the cluster's sums and largest label.
-/
module

public import proofs.«01_k».proof.Proof.KI.Payloads

@[expose] public section

noncomputable section

namespace Cert.Proof.KI

open Cert.KernelIdeal Cert.KernelIdeal.Gen Cert.Proof.Words Cert.Proof.Spec Cert.Proof.Greedy Cert.Proof.Sorted
open Idealize.ShloMosaic

/-- Where box `i` lies in a plane of 160 rows of 128. -/
def at' (i : Fin N) : S160x128.Idx := ix2 ⟨i.val / 128, by have := i.isLt; simp only [N] at this; omega⟩ ⟨i.val % 128, by omega⟩

/-- A place's number, row by row. -/
def lin (j : S160x128.Idx) : ℕ := (j 0).val * 128 + (j 1).val

theorem lin_at (i : Fin N) : lin (at' i) = i.val := by
  show i.val / 128 * 128 + i.val % 128 = i.val
  omega

theorem lin_inj {i j : S160x128.Idx} (h : lin i = lin j) : i = j := by
  have h1 : (i 1).val < 128 := (i 1).isLt
  have h2 : (j 1).val < 128 := (j 1).isLt
  unfold lin at h
  have e0 : i 0 = j 0 := Fin.ext (by omega)
  have e1 : i 1 = j 1 := Fin.ext (by omega)
  rw [eq_ix2 i, eq_ix2 j, e0, e1]

theorem lin_lt (j : S160x128.Idx) : lin j < 20480 := by
  have h0 : (j 0).val < 160 := (j 0).isLt
  have h1 : (j 1).val < 128 := (j 1).isLt
  unfold lin; omega

theorem at_of_lin (j : S160x128.Idx) (h : lin j < N) : at' ⟨lin j, h⟩ = j := lin_inj (lin_at _)

theorem at_inj {i j : Fin N} (h : at' i = at' j) : i = j := Fin.ext (by rw [← lin_at i, h, lin_at])

theorem numbers (j : S160x128.Idx) : k0_pay36 j = BitVec.ofNat 32 (lin j) := by
  pointwise [k0_pay36]
  unfold IntOp.addi IntOp.muli lin
  rw [show (128#32 : BitVec 32) = BitVec.ofNat 32 128 from rfl, ← BitVec.ofNat_mul, ← BitVec.ofNat_add]

/-- The planes hold the boxes in their order; the places after the last box hold label zero. -/
structure Planes (a : Args) (v9 v11 v20 v23 v26 v29 v32 : FVec Ideal S160x128 .f32) : Prop where
  score : ∀ i, v9 (at' i) = a.score i
  lab : ∀ i, v11 (at' i) = a.lab i
  lab_off : ∀ j, (∀ i, at' i ≠ j) → v11 j = (0 : EReal)
  x1 : ∀ i, v20 (at' i) = a.co 0 i
  y1 : ∀ i, v23 (at' i) = a.co 1 i
  x2 : ∀ i, v26 (at' i) = a.co 2 i
  y2 : ∀ i, v29 (at' i) = a.co 3 i
  area : ∀ i, v32 (at' i) = a.area i

/-- The mask marks the boxes not taken after `k` clusters. -/
def Holds (a : Args) (k : ℕ) (u : FVec Ideal S160x128 .f32) : Prop :=
  ∀ j, (0 : EReal) < u j ↔ ∃ p ∈ opened a.mg k, at' (a.sigma p) = j

variable {a : Args} {v9 v11 v20 v23 v26 v29 v32 : FVec Ideal S160x128 .f32} {u : FVec Ideal S160x128 .f32} {k : ℕ}

theorem at_sigma_inj {p q : Fin N} (h : at' (a.sigma p) = at' (a.sigma q)) : p = q :=
  Args.sigma_bij.injective (at_inj h)

theorem Holds.at (hu : Holds a k u) (p : Fin N) : (0 : EReal) < u (at' (a.sigma p)) ↔ p ∈ opened a.mg k := by
  rw [hu]
  exact ⟨fun ⟨q, hq, e⟩ => at_sigma_inj e ▸ hq, fun h => ⟨p, h, rfl⟩⟩

theorem mask_one (j : S160x128.Idx) : k0_pay9 u j = 1#1 ↔ (0 : EReal) < u j := by
  pointwise [k0_pay9]
  exact cmp_ogt

theorem masked (j : S160x128.Idx) : k0_pay10 v9 u j = if k0_pay9 u j = 1#1 then v9 j else (-1 : EReal) := by
  unfold k0_pay10
  show (if k0_pay9 u j = 1#1 then v9 j else Ideal.ofBits .f32 0xBF800000#32) = _
  rw [Args.minus_one]

theorem neg_one_lt : (-1 : EReal) < 0 := by
  rw [show (-1 : EReal) = ((-(1 : ℝ) : ℝ) : EReal) by rw [EReal.coe_neg]; rfl]
  exact EReal.coe_neg'.mpr (by norm_num)

/-- The largest score left is the head's. -/
theorem top_some (g : a.Good) (P : Planes a v9 v11 v20 v23 v26 v29 v32) (hu : Holds a k u)
    (hk : (opened a.mg k).Nonempty) : k0_pay11 v9 u = a.score (a.sigma (head (opened a.mg k))) := by
  rw [pay11_eq]
  apply le_antisymm
  · refine Finset.sup_le fun j _ => ?_
    rw [masked]
    split
    · rename_i h
      obtain ⟨p, hp, rfl⟩ := (hu j).mp ((mask_one j).mp h)
      rw [P.score]
      exact Args.sigma_score (head_le hp)
    · exact neg_one_lt.le.trans (g.score_nonneg _)
  · refine le_trans ?_ (Finset.le_sup (Finset.mem_univ (at' (a.sigma (head (opened a.mg k))))))
    rw [masked, if_pos ((mask_one _).mpr ((hu.at _).mpr (head_mem hk))), P.score]

theorem top_none (hu : Holds a k u) (hk : ¬ (opened a.mg k).Nonempty) : k0_pay11 v9 u = (-1 : EReal) := by
  rw [pay11_eq]
  apply le_antisymm
  · refine Finset.sup_le fun j _ => ?_
    rw [masked, if_neg fun h => ?_]
    obtain ⟨p, hp, -⟩ := (hu j).mp ((mask_one j).mp h)
    exact hk ⟨p, hp⟩
  · refine le_trans ?_ (Finset.le_sup (Finset.mem_univ (at' 0)))
    rw [masked, if_neg fun h => ?_]
    obtain ⟨p, hp, -⟩ := (hu _).mp ((mask_one _).mp h)
    exact hk ⟨p, hp⟩

theorem left_one (g : a.Good) (P : Planes a v9 v11 v20 v23 v26 v29 v32) (hu : Holds a k u) :
    PI.leftOf v9 u = 1#1 ↔ (opened a.mg k).Nonempty := by
  unfold PI.leftOf
  rw [scalar_oge]
  by_cases h : (opened a.mg k).Nonempty
  · rw [top_some g P hu h]
    exact ⟨fun _ => h, fun _ => g.score_nonneg _⟩
  · rw [top_none hu h]
    exact ⟨fun h' => absurd h' (not_le.mpr neg_one_lt), fun h' => absurd h' h⟩

theorem merge_imp_open (j : S160x128.Idx) (h : PI.mergeOf v9 v20 v23 v26 v29 v32 k0_pay36 u j = 1#1) :
    k0_pay9 u j = 1#1 := by
  unfold PI.mergeOf at h
  exact ((pay19_one _ _ _ _ _ _ _ _ _ _ _ _ _ _).mp h).2.1

/-- The mask of the head's place. -/
theorem onehot (g : a.Good) (P : Planes a v9 v11 v20 v23 v26 v29 v32) (hu : Holds a k u)
    (hk : (opened a.mg k).Nonempty) (j : S160x128.Idx) :
    k0_pay12 v9 k0_pay36 20481#32 u j = 1#1 ↔ j = at' (a.sigma (head (opened a.mg k))) := by
  set h := head (opened a.mg k) with hh
  have hcand : ∀ i, select (andi (k0_pay9 u) (cmpf .oeq (k0_pay10 v9 u) (broadcast S160x128 (k0_pay11 v9 u))))
      k0_pay36 (broadcast S160x128 20481#32) i
      = if (∃ p ∈ opened a.mg k, at' (a.sigma p) = i ∧ a.score (a.sigma p) = a.score (a.sigma h))
        then BitVec.ofNat 32 (lin i) else 20481#32 := fun i => by
    rw [sel, numbers]
    refine if_congr (cand_one v9 u i |>.trans ?_) rfl rfl
    rw [top_some g P hu hk, masked]
    constructor
    · rintro ⟨h1, h2⟩
      rw [if_pos h1] at h2
      obtain ⟨p, hp, rfl⟩ := (hu i).mp ((mask_one i).mp h1)
      exact ⟨p, hp, rfl, by rw [← h2, P.score]⟩
    · rintro ⟨p, hp, rfl, e⟩
      have h1 : k0_pay9 u (at' (a.sigma p)) = 1#1 := (mask_one _).mpr ((hu.at p).mpr hp)
      exact ⟨h1, by rw [if_pos h1, P.score, e]⟩
  have hmin := min_total (select (andi (k0_pay9 u) (cmpf .oeq (k0_pay10 v9 u) (broadcast S160x128 (k0_pay11 v9 u))))
      k0_pay36 (broadcast S160x128 20481#32)) (at' (a.sigma h)) (fun i => by
    rw [hcand, hcand, if_pos ⟨h, head_mem hk, rfl, rfl⟩]
    have l1 := lin_lt (at' (a.sigma h))
    rw [toInt_ofNat (by omega)]
    split
    · rename_i hc
      obtain ⟨p, hp, rfl, e⟩ := hc
      rw [toInt_ofNat (by have := lin_lt (at' (a.sigma p)); omega), lin_at, lin_at]
      have hle : h ≤ p := head_le hp
      rcases hle.lt_or_eq with hlt | heq
      · rcases Args.sigma_before (a := a) hlt with hb | hb
        · exact absurd (neg_inj.mpr e.symm) hb.ne
        · exact_mod_cast Fin.le_def.mp hb.2.le
      · rw [heq]
    · rw [show (20481#32 : BitVec 32).toInt = 20481 by decide]
      omega)
  rw [hcand, if_pos ⟨h, head_mem hk, rfl, rfl⟩] at hmin
  rw [pay12_eq v9 u _ _ _ j hmin, cmpi_eq_one, numbers, ofNat_inj (by have := lin_lt j; omega)
    (by have := lin_lt (at' (a.sigma h)); omega)]
  exact ⟨lin_inj, fun h => by rw [h]⟩

/-- The sum of a plane under the head's mask is the plane at the head. -/
theorem pick (g : a.Good) (P : Planes a v9 v11 v20 v23 v26 v29 v32) (hu : Holds a k u)
    (hk : (opened a.mg k).Nonempty) (v : FVec Ideal S160x128 .f32) :
    picked v9 u k0_pay36 20481#32 v = v (at' (a.sigma (head (opened a.mg k)))) := by
  unfold picked
  rw [Finset.sum_eq_single (at' (a.sigma (head (opened a.mg k))))]
  · rw [sel, if_pos ((onehot g P hu hk _).mpr rfl)]
  · intro j _ hj
    rw [sel, if_neg fun h => hj ((onehot g P hu hk _).mp h), zero_plane]
  · exact fun h => absurd (Finset.mem_univ _) h

/-- The boxes the head takes are the cluster. -/
theorem merge_one (g : a.Good) (P : Planes a v9 v11 v20 v23 v26 v29 v32) (hu : Holds a k u) (j : S160x128.Idx) :
    PI.mergeOf v9 v20 v23 v26 v29 v32 k0_pay36 u j = 1#1 ↔ ∃ p ∈ a.cluster k, at' (a.sigma p) = j := by
  by_cases hk : (opened a.mg k).Nonempty
  · have e13 : k0_pay13 v9 v20 k0_pay36 20481#32 u = a.co 0 (a.sigma (head (opened a.mg k))) :=
      ((pay13_eq _ _ _ _ _).trans (pick g P hu hk v20)).trans (P.x1 _)
    have e14 : k0_pay14 v9 v23 k0_pay36 20481#32 u = a.co 1 (a.sigma (head (opened a.mg k))) :=
      ((pay14_eq _ _ _ _ _).trans (pick g P hu hk v23)).trans (P.y1 _)
    have e15 : k0_pay15 v9 v26 k0_pay36 20481#32 u = a.co 2 (a.sigma (head (opened a.mg k))) :=
      ((pay15_eq _ _ _ _ _).trans (pick g P hu hk v26)).trans (P.x2 _)
    have e16 : k0_pay16 v9 v29 k0_pay36 20481#32 u = a.co 3 (a.sigma (head (opened a.mg k))) :=
      ((pay16_eq _ _ _ _ _).trans (pick g P hu hk v29)).trans (P.y2 _)
    have e17 : k0_pay17 v9 v20 v26 k0_pay36 20481#32 u
        = a.co 2 (a.sigma (head (opened a.mg k))) - a.co 0 (a.sigma (head (opened a.mg k))) := by
      rw [pay17_eq, e15, e13]
    have e18 : k0_pay18 v9 v23 v29 k0_pay36 20481#32 u
        = a.co 3 (a.sigma (head (opened a.mg k))) - a.co 1 (a.sigma (head (opened a.mg k))) := by
      rw [pay18_eq, e16, e14]
    unfold PI.mergeOf
    rw [e13, e14, e15, e16, e17, e18, (left_one g P hu).mpr hk]
    rw [pay19_one, mask_one]
    constructor
    · rintro ⟨h1, h2, -⟩
      obtain ⟨p, hp, rfl⟩ := (hu j).mp h2
      refine ⟨p, (mem_group _).mpr ⟨hp, ?_⟩, rfl⟩
      rw [P.x1, P.y1, P.x2, P.y2, P.area] at h1
      exact h1
    · rintro ⟨p, hp, rfl⟩
      obtain ⟨hp, hm⟩ := (mem_group _).mp hp
      refine ⟨?_, (hu.at p).mpr hp, rfl⟩
      rw [P.x1, P.y1, P.x2, P.y2, P.area]
      exact hm
  · constructor
    · intro h
      obtain ⟨p, hp, -⟩ := (hu j).mp ((mask_one j).mp (merge_imp_open j h))
      exact absurd ⟨p, hp⟩ hk
    · rintro ⟨p, hp, -⟩
      exact absurd ⟨p, ((mem_group _).mp hp).1⟩ hk

theorem merge_at (g : a.Good) (P : Planes a v9 v11 v20 v23 v26 v29 v32) (hu : Holds a k u) (p : Fin N) :
    PI.mergeOf v9 v20 v23 v26 v29 v32 k0_pay36 u (at' (a.sigma p)) = 1#1 ↔ p ∈ a.cluster k := by
  rw [merge_one g P hu]
  exact ⟨fun ⟨q, hq, e⟩ => at_sigma_inj e ▸ hq, fun h => ⟨p, h, rfl⟩⟩

/-- The next trip's mask. -/
theorem holds_next (g : a.Good) (P : Planes a v9 v11 v20 v23 v26 v29 v32) (hu : Holds a k u) :
    Holds a (k + 1) (k0_pay7 u (PI.mergeOf v9 v20 v23 v26 v29 v32 k0_pay36 u)) := fun j => by
  rw [pay7_eq]
  constructor
  · intro h
    split at h
    · exact absurd h (lt_irrefl _)
    · rename_i hm
      obtain ⟨p, hp, rfl⟩ := (hu j).mp h
      rw [merge_at g P hu] at hm
      exact ⟨p, (mem_opened_succ _).mpr ⟨hp, fun h => hm ((mem_group _).mpr ⟨hp, h⟩)⟩, rfl⟩
  · rintro ⟨p, hp, rfl⟩
    obtain ⟨h1, h2⟩ := (mem_opened_succ _).mp hp
    rw [if_neg fun h => h2 ((mem_group _).mp ((merge_at g P hu p).mp h)).2]
    exact (hu.at p).mpr h1

/-- A plane that is zero off the cluster sums to the sum over the cluster. -/
theorem sum_cluster (f : S160x128.Idx → EReal) (F : Fin N → EReal) (hin : ∀ p ∈ a.cluster k, f (at' (a.sigma p)) = F p)
    (hout : ∀ j, (¬ ∃ p ∈ a.cluster k, at' (a.sigma p) = j) → f j = 0) : ∑ j, f j = ∑ p ∈ a.cluster k, F p := by
  classical
  rw [← Finset.sum_congr rfl hin, ← Finset.sum_image (s := a.cluster k) (g := fun p => at' (a.sigma p)) (f := f)
    fun p _ q _ e => at_sigma_inj e]
  symm
  refine Finset.sum_subset (Finset.subset_univ _) fun j _ hj => hout j fun ⟨p, hp, e⟩ => hj ?_
  exact Finset.mem_image.mpr ⟨p, hp, e⟩

/-- The scores under the cluster's mask. -/
def maskedScores (v9 v20 v23 v26 v29 v32 u : FVec Ideal S160x128 .f32) : FVec Ideal S160x128 .f32 :=
  select (PI.mergeOf v9 v20 v23 v26 v29 v32 k0_pay36 u) v9
    (broadcast S160x128 (FloatOps.ofBits .f32 0x00000000#32 : Ideal .f32))

theorem scores_in (g : a.Good) (P : Planes a v9 v11 v20 v23 v26 v29 v32) (hu : Holds a k u) (p : Fin N)
    (hp : p ∈ a.cluster k) : maskedScores v9 v20 v23 v26 v29 v32 u (at' (a.sigma p)) = a.score (a.sigma p) := by
  unfold maskedScores
  rw [sel, if_pos ((merge_at g P hu p).mpr hp), P.score]

theorem scores_out (g : a.Good) (P : Planes a v9 v11 v20 v23 v26 v29 v32) (hu : Holds a k u) (j : S160x128.Idx)
    (hj : ¬ ∃ p ∈ a.cluster k, at' (a.sigma p) = j) : maskedScores v9 v20 v23 v26 v29 v32 u j = (0 : EReal) := by
  unfold maskedScores
  rw [sel, if_neg fun h => hj ((merge_one g P hu j).mp h), zero_plane]

theorem sum_scores (g : a.Good) (P : Planes a v9 v11 v20 v23 v26 v29 v32) (hu : Holds a k u) :
    (∑ j, maskedScores v9 v20 v23 v26 v29 v32 u j : EReal) = a.sumScore k :=
  sum_cluster _ _ (scores_in g P hu) (scores_out g P hu)

theorem sum_coord (g : a.Good) (P : Planes a v9 v11 v20 v23 v26 v29 v32) (hu : Holds a k u) (d : Fin 4)
    (v : FVec Ideal S160x128 .f32) (hv : ∀ i, v (at' i) = a.co d i) :
    (∑ j, mulf (maskedScores v9 v20 v23 v26 v29 v32 u) v j : EReal) = a.sumCo k d := by
  refine sum_cluster _ _ (fun p hp => ?_) (fun j hj => ?_)
  · show (maskedScores v9 v20 v23 v26 v29 v32 u (at' (a.sigma p)) * v (at' (a.sigma p)) : EReal) = _
    rw [scores_in g P hu p hp, hv, mul_comm]
  · show (maskedScores v9 v20 v23 v26 v29 v32 u j * v j : EReal) = _
    rw [scores_out g P hu j hj, zero_mul]

theorem max_label (g : a.Good) (P : Planes a v9 v11 v20 v23 v26 v29 v32) (hu : Holds a k u)
    (hk : (opened a.mg k).Nonempty) :
    (Finset.univ.sup (select (PI.mergeOf v9 v20 v23 v26 v29 v32 k0_pay36 u) v11
      (broadcast S160x128 (FloatOps.ofBits .f32 0x00000000#32 : Ideal .f32))) : EReal) = a.maxLab k := by
  have hm : head (opened a.mg k) ∈ a.cluster k := head_mem_group _ (Args.mg_self g) hk
  have h0 : 0 ≤ a.maxLab k :=
    (Args.lab_nonneg g _).trans (Finset.le_sup (f := fun p => a.lab (a.sigma p)) hm)
  apply le_antisymm
  · refine Finset.sup_le fun j _ => ?_
    rw [sel, zero_plane]
    split
    · rename_i h
      obtain ⟨p, hp, rfl⟩ := (merge_one g P hu j).mp h
      rw [P.lab]
      exact Finset.le_sup (f := fun p => a.lab (a.sigma p)) hp
    · exact h0
  · refine Finset.sup_le fun p hp => ?_
    refine le_trans (le_of_eq ?_) (Finset.le_sup (Finset.mem_univ (at' (a.sigma p))))
    rw [sel, if_pos ((merge_at g P hu p).mpr hp), P.lab]

end Cert.Proof.KI
-- ==== Proof.Math.Shapes.lean ====
/-
Reshapes at an index, by the places' numbers.
-/
module

public import Idealize.ShloMosaic.Lib.Pointwise.Tactic
public import Idealize.ShloMosaic.Lib.Pointwise.Reshape

@[expose] public section

noncomputable section

namespace Cert.Proof.Shapes

open Idealize.ShloMosaic

/-- A reshape at a place: the operand at the place with the same number. -/
theorem cast_at {s t : Shape} {α : Type} (x : s.Idx → α) (h : s.ShapeCasts t) (j : t.Idx) (y : s.Idx)
    (e : (s.rowMajor y : ℕ) = t.rowMajor j) : shapeCast t x h j = x y :=
  congrArg x (Shape.reshapeEquiv_eq_of_vals h j y _ _ e rfl rfl)

theorem row_list {n : ℕ} (i : Fin n) : ((⟨1, ![n]⟩ : Shape).rowMajor (ix1 i) : ℕ) = i.val := by
  rw [rowMajor_val1]; rfl

theorem row_plane {n k : ℕ} (i : Fin n) (j : Fin k) :
    ((⟨2, ![n, k]⟩ : Shape).rowMajor (ix2 i j) : ℕ) = i.val * k + j.val := by
  rw [rowMajor_val2 _ k rfl]; rfl

end Cert.Proof.Shapes
-- ==== Proof.KI.Host.lean ====
/-
The six planes that the kernel is launched on, read off the host lines before the launch.
-/
module

public import proofs.«01_k».proof.Proof.KI.Trip
public import proofs.«01_k».proof.Proof.Math.Shapes
public import Idealize.ShloMosaic.Lib.StableHlo.RunRead
public import Idealize.ShloMosaic.Lib.Tactic
public import Idealize.ShloMosaic.Lib.Claim

@[expose] public section

noncomputable section

namespace Cert.Proof.KI

open Cert.KernelIdeal Cert.KernelIdeal.Gen Cert.Proof.Shapes Cert.Proof.Spec
open Idealize.ShloMosaic Idealize.ShloMosaic.TcCoe Idealize.ShloMosaic.Tactic

/-! ## A plane and a column at an index -/

/-- A list of 20000 numbers laid out as a plane, with zeros behind. -/
def plane (x : FVec Ideal S20000 .f32) : FVec Ideal S160x128 .f32 :=
  shapeCast S160x128 (pad S20480 ![0] ![480] ![0] x (sitofp .f32 (constantI S_ 32 0#32)) pads_S20000_S20480_04800 h_S_)
    shapeCasts_S20480_S160x128

theorem row_lin (j : S160x128.Idx) : (S160x128.rowMajor j : ℕ) = lin j := by
  rw [rowMajor_val2 j 128 rfl]; rfl

theorem zero_word : (FloatOps.sitofp (F := Ideal) .f32 (0#32) : EReal) = 0 := by
  show (((0#32 : BitVec 32).toInt : ℝ) : EReal) = 0
  simp

theorem plane_at (x : FVec Ideal S20000 .f32) (i : Fin N) : plane x (at' i) = x (ix1 i) := by
  have hi : i.val < 20000 := i.isLt
  unfold plane
  rw [cast_at _ _ (at' i) (ix1 ⟨i.val, by omega⟩) (by rw [row_lin, lin_at, row_list])]
  rw [pad_apply, dif_pos]
  · refine congrArg x (funext fun a => ?_)
    fin_cases a
    simp [Shape.Idx.norm, ix1]
    rfl
  · intro a
    fin_cases a
    simp [ix1, hi, Nat.mod_one]

theorem plane_off (x : FVec Ideal S20000 .f32) (j : S160x128.Idx) (h : N ≤ lin j) : plane x j = (0 : EReal) := by
  have hl := lin_lt j
  unfold plane
  rw [cast_at _ _ j (ix1 ⟨lin j, hl⟩) (by rw [row_lin, row_list])]
  rw [pad_apply, dif_neg]
  · pointwise
    exact zero_word
  · intro hin
    have := (hin 0).2.2
    simp [ix1] at this
    unfold N at h
    omega

/-- Coordinate 0 of every box. -/
def column0 (x : FVec Ideal S20000x4 .f32) : FVec Ideal S20000 .f32 :=
  shapeCast S20000 (extractStridedSlice S20000x1 ![0, 0] x slices_S20000x4_S20000x1_0_0) shapeCasts_S20000x1_S20000

theorem column0_at (x : FVec Ideal S20000x4 .f32) (i : Fin N) : column0 x (ix1 i) = x (ix2 i 0) := by
  unfold column0
  rw [cast_at _ _ (ix1 i) (ix2 i 0) (by rw [row_list, row_plane]; simp)]
  pointwise

/-- Coordinate 1 of every box. -/
def column1 (x : FVec Ideal S20000x4 .f32) : FVec Ideal S20000 .f32 :=
  shapeCast S20000 (extractStridedSlice S20000x1 ![0, 1] x slices_S20000x4_S20000x1_0_1) shapeCasts_S20000x1_S20000

theorem column1_at (x : FVec Ideal S20000x4 .f32) (i : Fin N) : column1 x (ix1 i) = x (ix2 i 1) := by
  unfold column1
  rw [cast_at _ _ (ix1 i) (ix2 i 0) (by rw [row_list, row_plane]; simp)]
  pointwise

/-- Coordinate 2 of every box. -/
def column2 (x : FVec Ideal S20000x4 .f32) : FVec Ideal S20000 .f32 :=
  shapeCast S20000 (extractStridedSlice S20000x1 ![0, 2] x slices_S20000x4_S20000x1_0_2) shapeCasts_S20000x1_S20000

theorem column2_at (x : FVec Ideal S20000x4 .f32) (i : Fin N) : column2 x (ix1 i) = x (ix2 i 2) := by
  unfold column2
  rw [cast_at _ _ (ix1 i) (ix2 i 0) (by rw [row_list, row_plane]; simp)]
  pointwise

/-- Coordinate 3 of every box. -/
def column3 (x : FVec Ideal S20000x4 .f32) : FVec Ideal S20000 .f32 :=
  shapeCast S20000 (extractStridedSlice S20000x1 ![0, 3] x slices_S20000x4_S20000x1_0_3) shapeCasts_S20000x1_S20000

theorem column3_at (x : FVec Ideal S20000x4 .f32) (i : Fin N) : column3 x (ix1 i) = x (ix2 i 3) := by
  unfold column3
  rw [cast_at _ _ (ix1 i) (ix2 i 0) (by rw [row_list, row_plane]; simp)]
  pointwise

/-! ## The launch's six planes -/

variable (m : (ℓ : Loc nD τ sig) → Buf (Elt Ideal) ℓ) (c : Dev nD)

theorem v4_eq : V0 m c (Proc.devRef .tc main_v4) = plane (column0 (m (c.tc.loc main_arg0))) := by
  unfold_abbrev_sides
  after_reads_simp
  rfl

theorem v8_eq : V0 m c (Proc.devRef .tc main_v8) = plane (column1 (m (c.tc.loc main_arg0))) := by
  unfold_abbrev_sides
  after_reads_simp
  rfl

theorem v12_eq : V0 m c (Proc.devRef .tc main_v12) = plane (column2 (m (c.tc.loc main_arg0))) := by
  unfold_abbrev_sides
  after_reads_simp
  rfl

theorem v16_eq : V0 m c (Proc.devRef .tc main_v16) = plane (column3 (m (c.tc.loc main_arg0))) := by
  unfold_abbrev_sides
  after_reads_simp
  rfl

theorem v18_eq : V0 m c (Proc.devRef .tc main_v18) = plane (m (c.tc.loc main_arg1)) := by
  unfold_abbrev_sides
  after_reads_simp
  rfl

theorem v20_eq : V0 m c (Proc.devRef .tc main_v20) = plane (sitofp .f32 (m (c.tc.loc main_arg2))) := by
  unfold_abbrev_sides
  after_reads_simp
  rfl

end Cert.Proof.KI
-- ==== Proof.KI.Lanes.lean ====
/-
The hundred trips together: after `t` of them lane `l < t` holds cluster `l`'s sums, top score, largest label and flag.
Then the rows the kernel stores.
-/
module

public import proofs.«01_k».proof.Proof.KI.Trip

@[expose] public section

noncomputable section

namespace Cert.Proof.KI

open Cert.KernelIdeal Cert.KernelIdeal.Gen Cert.Proof.Words Cert.Proof.Spec Cert.Proof.Greedy Cert.Proof.Sorted
open Idealize.ShloMosaic

/-- The lane numbers. -/
abbrev lanes : IVec S1x128 32 := iota .tc S1x128 32 [1] iota_S1x128_d1_w32

/-- A lane. -/
abbrev lane (l : Fin 128) : S1x128.Idx := ix2 0 l

theorem lanes_at (l : Fin 128) : lanes (lane l) = BitVec.ofNat 32 l.val := by
  pointwise

theorem lane_one (l : Fin 128) (k : ℕ) (hk : k < 2 ^ 31) :
    k0_pay21 lanes (BitVec.ofNat 32 k) (lane l) = 1#1 ↔ l.val = k := by
  unfold k0_pay21
  rw [word_eq, cmpi_eq_one, lanes_at, ofNat_inj (by have := l.isLt; omega) hk]

theorem lane_sel (l : Fin 128) (k : ℕ) (hk : k < 2 ^ 31) (x : Ideal .f32) (old : FVec Ideal S1x128 .f32) :
    select (k0_pay21 lanes (BitVec.ofNat 32 k)) (broadcast S1x128 x) old (lane l)
      = if l.val = k then x else old (lane l) := by
  rw [sel]
  exact if_congr (lane_one l k hk) rfl rfl

/-- What a trip carries. -/
abbrev Acc := FVec Ideal S160x128 .f32 × FVec Ideal S1x128 .f32 × FVec Ideal S1x128 .f32 × FVec Ideal S1x128 .f32
  × FVec Ideal S1x128 .f32 × FVec Ideal S1x128 .f32 × FVec Ideal S1x128 .f32 × FVec Ideal S1x128 .f32
  × FVec Ideal S1x128 .f32

variable {a : Args} {v9 v11 v20 v23 v26 v29 v32 : FVec Ideal S160x128 .f32}

section Parts

variable (v9 v20 v23 v26 v29 v32 u : FVec Ideal S160x128 .f32) (w : BitVec 32) (old : FVec Ideal S1x128 .f32)

theorem scores_eq :
    k0_pay20 v9 v20 v23 v26 v29 v32 (k0_pay9 u) (PI.leftOf v9 u)
     (k0_pay13 v9 v20 k0_pay36 20481#32 u) (k0_pay14 v9 v23 k0_pay36 20481#32 u) (k0_pay15 v9 v26 k0_pay36 20481#32 u)
     (k0_pay16 v9 v29 k0_pay36 20481#32 u) (k0_pay17 v9 v20 v26 k0_pay36 20481#32 u)
     (k0_pay18 v9 v23 v29 k0_pay36 20481#32 u) = maskedScores v9 v20 v23 v26 v29 v32 u := by
  unfold k0_pay20 maskedScores PI.mergeOf
  rfl

variable (z : IVec S160x128 1) (l : BitVec 1) (b c d e f h : Ideal .f32)

theorem pay22_eq : k0_pay22 v9 v20 v23 v26 v29 v32 lanes old w z l b c d e f h
    = select (k0_pay21 lanes w) (broadcast S1x128 (∑ j, mulf (k0_pay20 v9 v20 v23 v26 v29 v32 z l b c d e f h) v20 j :
        EReal)) old := by
  unfold k0_pay22; dsimp only; rw [sum_total]

theorem pay23_eq : k0_pay23 v9 v20 v23 v26 v29 v32 lanes old w z l b c d e f h
    = select (k0_pay21 lanes w) (broadcast S1x128 (∑ j, mulf (k0_pay20 v9 v20 v23 v26 v29 v32 z l b c d e f h) v23 j :
        EReal)) old := by
  unfold k0_pay23; dsimp only; rw [sum_total]

theorem pay24_eq : k0_pay24 v9 v20 v23 v26 v29 v32 lanes old w z l b c d e f h
    = select (k0_pay21 lanes w) (broadcast S1x128 (∑ j, mulf (k0_pay20 v9 v20 v23 v26 v29 v32 z l b c d e f h) v26 j :
        EReal)) old := by
  unfold k0_pay24; dsimp only; rw [sum_total]

theorem pay2_eq : k0_pay2 old (k0_pay21 lanes w) (k0_pay25 v9 v20 v23 v26 v29 v32 z l b c d e f h)
    = select (k0_pay21 lanes w) (broadcast S1x128 (∑ j, mulf (k0_pay20 v9 v20 v23 v26 v29 v32 z l b c d e f h) v29 j :
        EReal)) old := by
  unfold k0_pay2 k0_pay25; dsimp only; rw [sum_total]

theorem pay3_eq (v : FVec Ideal S160x128 .f32) : k0_pay3 old v (k0_pay21 lanes w)
    = select (k0_pay21 lanes w) (broadcast S1x128 (∑ j, v j : EReal)) old := by
  unfold k0_pay3; dsimp only; rw [sum_total]

theorem pay5_eq (v : FVec Ideal S160x128 .f32) : k0_pay5 v old z (k0_pay21 lanes w)
    = select (k0_pay21 lanes w) (broadcast S1x128 (Finset.univ.sup (select z v
      (broadcast S160x128 (FloatOps.ofBits .f32 0x00000000#32 : Ideal .f32))) : EReal)) old := by
  unfold k0_pay5; dsimp only; rw [max_total]

theorem pay4_eq (x : Ideal .f32) : k0_pay4 old x (k0_pay21 lanes w)
    = select (k0_pay21 lanes w) (broadcast S1x128 x) old := by
  unfold k0_pay4; rfl

theorem pay6_at (i : Fin 128) (k : ℕ) (hk : k < 2 ^ 31) :
    k0_pay6 old l (k0_pay21 lanes (BitVec.ofNat 32 k)) (lane i)
      = if i.val = k ∧ l = 1#1 then (1 : EReal) else old (lane i) := by
  unfold k0_pay6
  rw [sel]
  refine if_congr ?_ Ideal.ofBits_one_f32 rfl
  rw [← lane_one i k hk]
  exact andi_one

end Parts

/-- What holds after `t` trips. -/
structure Inv (a : Args) (t : ℕ) (acc : Acc) : Prop where
  mask : Holds a t acc.1
  x1 : ∀ l : Fin 128, l.val < t → l.val < a.clusters → acc.2.1 (lane l) = a.sumCo l.val 0
  y1 : ∀ l : Fin 128, l.val < t → l.val < a.clusters → acc.2.2.1 (lane l) = a.sumCo l.val 1
  x2 : ∀ l : Fin 128, l.val < t → l.val < a.clusters → acc.2.2.2.1 (lane l) = a.sumCo l.val 2
  y2 : ∀ l : Fin 128, l.val < t → l.val < a.clusters → acc.2.2.2.2.1 (lane l) = a.sumCo l.val 3
  score : ∀ l : Fin 128, l.val < t → l.val < a.clusters → acc.2.2.2.2.2.1 (lane l) = a.sumScore l.val
  top : ∀ l : Fin 128, l.val < t → l.val < a.clusters → acc.2.2.2.2.2.2.1 (lane l) = a.topScore l.val
  lab : ∀ l : Fin 128, l.val < t → l.val < a.clusters → acc.2.2.2.2.2.2.2.1 (lane l) = a.maxLab l.val
  flag : ∀ l : Fin 128, (0 : EReal) < acc.2.2.2.2.2.2.2.2 (lane l) ↔ l.val < t ∧ l.val < a.clusters

theorem lane_step {t : ℕ} (ht : t < 2 ^ 31) (x : Ideal .f32) (old : FVec Ideal S1x128 .f32) (Y : ℕ → EReal)
    (hold : ∀ l : Fin 128, l.val < t → l.val < a.clusters → old (lane l) = Y l.val)
    (hx : t < a.clusters → x = Y t) (l : Fin 128) (hl : l.val < t + 1) (hc : l.val < a.clusters) :
    select (k0_pay21 lanes (BitVec.ofNat 32 t)) (broadcast S1x128 x) old (lane l) = Y l.val := by
  rw [lane_sel l t ht]
  split
  · rename_i h
    rw [h]
    exact hx (h ▸ hc)
  · rename_i h
    exact hold l (by omega) hc

theorem inv_step (g : a.Good) (P : Planes a v9 v11 v20 v23 v26 v29 v32) (k : Fin k0_t1_loop.trips) (acc : Acc)
    (h : Inv a k.val acc) : Inv a (k.val + 1) (PI.trip v9 v11 v20 v23 v26 v29 v32 k0_pay36 lanes k acc) := by
  have hk : k.val < 2 ^ 31 := by
    have : k.val < 100 := k.isLt
    omega
  have hiv : Scf.iv 0#32 1#32 k = BitVec.ofNat 32 k.val := by
    unfold Scf.iv; simp
  have hne : k.val < a.clusters ↔ (opened a.mg k.val).Nonempty := (nonempty_iff a.mg (Args.mg_self g)).symm
  unfold PI.trip
  rw [hiv, pay22_eq, pay23_eq, pay24_eq, pay2_eq, pay3_eq, pay4_eq, pay5_eq, scores_eq]
  refine ⟨holds_next g P h.mask, ?_, ?_, ?_, ?_, ?_, ?_, ?_, ?_⟩
  · exact lane_step hk _ _ (fun l => a.sumCo l 0) h.x1 fun _ => sum_coord g P h.mask 0 _ P.x1
  · exact lane_step hk _ _ (fun l => a.sumCo l 1) h.y1 fun _ => sum_coord g P h.mask 1 _ P.y1
  · exact lane_step hk _ _ (fun l => a.sumCo l 2) h.x2 fun _ => sum_coord g P h.mask 2 _ P.x2
  · exact lane_step hk _ _ (fun l => a.sumCo l 3) h.y2 fun _ => sum_coord g P h.mask 3 _ P.y2
  · exact lane_step hk _ _ a.sumScore h.score fun _ => sum_scores g P h.mask
  · exact lane_step hk _ _ a.topScore h.top fun hc => top_some g P h.mask (hne.mp hc)
  · exact lane_step hk _ _ a.maxLab h.lab fun hc => max_label g P h.mask (hne.mp hc)
  · intro l
    dsimp only
    have hl : PI.leftOf v9 acc.1 = 1#1 ↔ k.val < a.clusters := (left_one g P h.mask).trans hne.symm
    rw [pay6_at _ _ l _ hk]
    by_cases hc : l.val = k.val ∧ PI.leftOf v9 acc.1 = 1#1
    · rw [if_pos hc]
      have := hl.mp hc.2
      exact ⟨fun _ => ⟨by omega, by omega⟩, fun _ => zero_lt_one⟩
    · rw [if_neg hc, h.flag]
      rw [hl] at hc
      omega

/-- A property kept by every trip holds after the fold. -/
theorem foldl_ind {σ : Type} : ∀ (n : ℕ) (f : Fin n → σ → σ) (I : ℕ → σ → Prop) (init : σ), I 0 init →
    (∀ k x, I k.val x → I (k.val + 1) (f k x)) → I n ((List.finRange n).foldl (fun x k => f k x) init)
  | 0, _, _, _, h, _ => h
  | n + 1, f, I, init, h, hs => by
    rw [List.finRange_succ, List.foldl_cons, List.foldl_map]
    exact foldl_ind n (fun k => f k.succ) (fun k => I (k + 1)) _ (hs 0 init h) fun k x hx => hs k.succ x hx

theorem inv_fold (g : a.Good) (P : Planes a v9 v11 v20 v23 v26 v29 v32) (init : Acc) (h : Inv a 0 init) :
    Inv a 100 (Scf.fold (PI.trip v9 v11 v20 v23 v26 v29 v32 k0_pay36 lanes) init) := by
  rw [Scf.fold_eq]
  exact foldl_ind k0_t1_loop.trips _ (Inv a) init h (inv_step g P)

/-- The mask the loop starts from. -/
theorem holds_start : Holds a 0 (k0_pay1 k0_pay38 (FloatOps.ofBits .f32 0x3F800000#32 : Ideal .f32)) := fun j => by
  have e : k0_pay1 k0_pay38 (FloatOps.ofBits .f32 0x3F800000#32 : Ideal .f32) j
      = if lin j < N then (1 : EReal) else 0 := by
    unfold k0_pay1
    rw [sel]
    refine if_congr ?_ Ideal.ofBits_one_f32 Ideal.ofBits_zero_f32
    unfold k0_pay38
    pointwise
    rw [numbers, cmpi_slt_one, toInt_ofNat (by have := lin_lt j; omega), show (20000#32 : BitVec 32).toInt = 20000 by decide]
    exact Nat.cast_lt (α := ℤ) (n := 20000)
  rw [e]
  constructor
  · intro h
    split at h
    · rename_i hl
      obtain ⟨p, hp⟩ := Args.sigma_bij.surjective (⟨lin j, hl⟩ : Fin N) (f := a.sigma)
      exact ⟨p, Finset.mem_univ p, by rw [hp]; exact at_of_lin j hl⟩
    · exact absurd h (lt_irrefl _)
  · rintro ⟨p, -, rfl⟩
    rw [if_pos (by rw [lin_at]; exact (a.sigma p).isLt)]
    exact zero_lt_one

theorem inv_start : Inv a 0 (k0_pay1 k0_pay38 (FloatOps.ofBits .f32 0x3F800000#32 : Ideal .f32),
    k0_pay37, k0_pay37, k0_pay37, k0_pay37, k0_pay37, k0_pay37, k0_pay37, k0_pay37) := by
  refine ⟨holds_start, ?_, ?_, ?_, ?_, ?_, ?_, ?_, fun l => ?_⟩
  iterate 7 exact fun l h => absurd h (Nat.not_lt_zero _)
  constructor
  · intro h
    refine absurd h (not_lt.mpr (le_of_eq ?_))
    exact zero_plane (lane l)
  · exact fun h => absurd h.1 (Nat.not_lt_zero _)

/-! ### The rows of the result -/

section Cat

variable (r0 r1 r2 r3 r4 r5 r6 r7 : FVec Ideal S1x128 .f32)
  (h : Shape.Concatenates ([S1x128, S1x128, S1x128, S1x128, S1x128, S1x128, S1x128, S1x128]) S8x128 0) (l : Fin 128)

theorem cat0 : concatenate S8x128 0 [⟨S1x128, r0⟩, ⟨S1x128, r1⟩, ⟨S1x128, r2⟩, ⟨S1x128, r3⟩, ⟨S1x128, r4⟩,
    ⟨S1x128, r5⟩, ⟨S1x128, r6⟩, ⟨S1x128, r7⟩] h (ix2 0 l) = r0 (lane l) := by
  refine congrArg r0 (funext fun b => ?_)
  fin_cases b <;> rfl

theorem cat1 : concatenate S8x128 0 [⟨S1x128, r0⟩, ⟨S1x128, r1⟩, ⟨S1x128, r2⟩, ⟨S1x128, r3⟩, ⟨S1x128, r4⟩,
    ⟨S1x128, r5⟩, ⟨S1x128, r6⟩, ⟨S1x128, r7⟩] h (ix2 1 l) = r1 (lane l) := by
  refine congrArg r1 (funext fun b => ?_)
  fin_cases b <;> rfl

theorem cat2 : concatenate S8x128 0 [⟨S1x128, r0⟩, ⟨S1x128, r1⟩, ⟨S1x128, r2⟩, ⟨S1x128, r3⟩, ⟨S1x128, r4⟩,
    ⟨S1x128, r5⟩, ⟨S1x128, r6⟩, ⟨S1x128, r7⟩] h (ix2 2 l) = r2 (lane l) := by
  refine congrArg r2 (funext fun b => ?_)
  fin_cases b <;> rfl

theorem cat3 : concatenate S8x128 0 [⟨S1x128, r0⟩, ⟨S1x128, r1⟩, ⟨S1x128, r2⟩, ⟨S1x128, r3⟩, ⟨S1x128, r4⟩,
    ⟨S1x128, r5⟩, ⟨S1x128, r6⟩, ⟨S1x128, r7⟩] h (ix2 3 l) = r3 (lane l) := by
  refine congrArg r3 (funext fun b => ?_)
  fin_cases b <;> rfl

theorem cat4 : concatenate S8x128 0 [⟨S1x128, r0⟩, ⟨S1x128, r1⟩, ⟨S1x128, r2⟩, ⟨S1x128, r3⟩, ⟨S1x128, r4⟩,
    ⟨S1x128, r5⟩, ⟨S1x128, r6⟩, ⟨S1x128, r7⟩] h (ix2 4 l) = r4 (lane l) := by
  refine congrArg r4 (funext fun b => ?_)
  fin_cases b <;> rfl

theorem cat5 : concatenate S8x128 0 [⟨S1x128, r0⟩, ⟨S1x128, r1⟩, ⟨S1x128, r2⟩, ⟨S1x128, r3⟩, ⟨S1x128, r4⟩,
    ⟨S1x128, r5⟩, ⟨S1x128, r6⟩, ⟨S1x128, r7⟩] h (ix2 5 l) = r5 (lane l) := by
  refine congrArg r5 (funext fun b => ?_)
  fin_cases b <;> rfl

end Cat

section Rows

variable (m : Ideal .f32) (z b1 b2 b3 b4 b5 b6 b7 b8 : FVec Ideal S1x128 .f32) (l : Fin 128)

theorem row0 : k0_pay8 m z b1 b2 b3 b4 b5 b6 b7 b8 (ix2 0 l)
    = if (0 : EReal) < b8 (lane l) then Ideal.div (b1 (lane l)) (b5 (lane l)) - b7 (lane l) * m else 0 := by
  unfold k0_pay8
  refine (cat0 _ _ _ _ _ _ _ _ _ l).trans ?_
  pointwise
  by_cases h : (0 : EReal) < b8 (lane l)
  · rw [if_pos h, scalar_sel, if_pos ((float_ogt _ _).mpr h), scalar_sel, if_pos ((float_ogt _ _).mpr h)]
  · rw [if_neg h, scalar_sel, if_neg fun h' => h ((float_ogt _ _).mp h')]

theorem row1 : k0_pay8 m z b1 b2 b3 b4 b5 b6 b7 b8 (ix2 1 l)
    = if (0 : EReal) < b8 (lane l) then Ideal.div (b2 (lane l)) (b5 (lane l)) - b7 (lane l) * m else 0 := by
  unfold k0_pay8
  refine (cat1 _ _ _ _ _ _ _ _ _ l).trans ?_
  pointwise
  by_cases h : (0 : EReal) < b8 (lane l)
  · rw [if_pos h, scalar_sel, if_pos ((float_ogt _ _).mpr h), scalar_sel, if_pos ((float_ogt _ _).mpr h)]
  · rw [if_neg h, scalar_sel, if_neg fun h' => h ((float_ogt _ _).mp h')]

theorem row2 : k0_pay8 m z b1 b2 b3 b4 b5 b6 b7 b8 (ix2 2 l)
    = if (0 : EReal) < b8 (lane l) then Ideal.div (b3 (lane l)) (b5 (lane l)) - b7 (lane l) * m else 0 := by
  unfold k0_pay8
  refine (cat2 _ _ _ _ _ _ _ _ _ l).trans ?_
  pointwise
  by_cases h : (0 : EReal) < b8 (lane l)
  · rw [if_pos h, scalar_sel, if_pos ((float_ogt _ _).mpr h), scalar_sel, if_pos ((float_ogt _ _).mpr h)]
  · rw [if_neg h, scalar_sel, if_neg fun h' => h ((float_ogt _ _).mp h')]

theorem row3 : k0_pay8 m z b1 b2 b3 b4 b5 b6 b7 b8 (ix2 3 l)
    = if (0 : EReal) < b8 (lane l) then Ideal.div (b4 (lane l)) (b5 (lane l)) - b7 (lane l) * m else 0 := by
  unfold k0_pay8
  refine (cat3 _ _ _ _ _ _ _ _ _ l).trans ?_
  pointwise
  by_cases h : (0 : EReal) < b8 (lane l)
  · rw [if_pos h, scalar_sel, if_pos ((float_ogt _ _).mpr h), scalar_sel, if_pos ((float_ogt _ _).mpr h)]
  · rw [if_neg h, scalar_sel, if_neg fun h' => h ((float_ogt _ _).mp h')]

theorem row4 : k0_pay8 m z b1 b2 b3 b4 b5 b6 b7 b8 (ix2 4 l)
    = if (0 : EReal) < b8 (lane l) then b6 (lane l) else (0 : EReal) := by
  unfold k0_pay8
  refine (cat4 _ _ _ _ _ _ _ _ _ l).trans ?_
  pointwise
  exact if_congr (float_ogt _ _) rfl rfl

theorem row5 : k0_pay8 m z b1 b2 b3 b4 b5 b6 b7 b8 (ix2 5 l)
    = if (0 : EReal) < b8 (lane l) then b7 (lane l) else (-1 : EReal) := by
  unfold k0_pay8
  refine (cat5 _ _ _ _ _ _ _ _ _ l).trans ?_
  pointwise
  exact if_congr (float_ogt _ _) rfl Args.minus_one

end Rows

section Results

variable {acc : Acc} (z : FVec Ideal S1x128 .f32)

/-- The kernel's stored value, from what the trips carry. -/
def stored (m : Ideal .f32) (acc : Acc) : FVec Ideal S8x128 .f32 :=
  k0_pay8 m z acc.2.1 acc.2.2.1 acc.2.2.2.1 acc.2.2.2.2.1 acc.2.2.2.2.2.1 acc.2.2.2.2.2.2.1 acc.2.2.2.2.2.2.2.1
    acc.2.2.2.2.2.2.2.2

theorem flag_iff (h : Inv a 100 acc) (l : Fin 128) (hl : l.val < 100) :
    (0 : EReal) < acc.2.2.2.2.2.2.2.2 (lane l) ↔ l.val < a.clusters :=
  (h.flag l).trans ⟨fun h => h.2, fun h => ⟨hl, h⟩⟩

theorem box0 (h : Inv a 100 acc) (l : Fin 128) (hl : l.val < 100) : stored z a.shift acc (ix2 0 l) = a.outBox l.val 0 := by
  unfold Args.outBox stored
  rw [row0]
  by_cases hc : l.val < a.clusters
  · rw [if_pos hc, if_pos ((flag_iff h l hl).mpr hc), h.x1 l hl hc, h.score l hl hc, h.lab l hl hc]
  · rw [if_neg hc, if_neg fun h' => hc ((flag_iff h l hl).mp h')]

theorem box1 (h : Inv a 100 acc) (l : Fin 128) (hl : l.val < 100) : stored z a.shift acc (ix2 1 l) = a.outBox l.val 1 := by
  unfold Args.outBox stored
  rw [row1]
  by_cases hc : l.val < a.clusters
  · rw [if_pos hc, if_pos ((flag_iff h l hl).mpr hc), h.y1 l hl hc, h.score l hl hc, h.lab l hl hc]
  · rw [if_neg hc, if_neg fun h' => hc ((flag_iff h l hl).mp h')]

theorem box2 (h : Inv a 100 acc) (l : Fin 128) (hl : l.val < 100) : stored z a.shift acc (ix2 2 l) = a.outBox l.val 2 := by
  unfold Args.outBox stored
  rw [row2]
  by_cases hc : l.val < a.clusters
  · rw [if_pos hc, if_pos ((flag_iff h l hl).mpr hc), h.x2 l hl hc, h.score l hl hc, h.lab l hl hc]
  · rw [if_neg hc, if_neg fun h' => hc ((flag_iff h l hl).mp h')]

theorem box3 (h : Inv a 100 acc) (l : Fin 128) (hl : l.val < 100) : stored z a.shift acc (ix2 3 l) = a.outBox l.val 3 := by
  unfold Args.outBox stored
  rw [row3]
  by_cases hc : l.val < a.clusters
  · rw [if_pos hc, if_pos ((flag_iff h l hl).mpr hc), h.y2 l hl hc, h.score l hl hc, h.lab l hl hc]
  · rw [if_neg hc, if_neg fun h' => hc ((flag_iff h l hl).mp h')]

theorem box (h : Inv a 100 acc) (l : Fin 128) (hl : l.val < 100) (d : Fin 4) :
    stored z a.shift acc (ix2 ⟨d.val, by omega⟩ l) = a.outBox l.val d := by
  match d with
  | 0 => exact box0 z h l hl
  | 1 => exact box1 z h l hl
  | 2 => exact box2 z h l hl
  | 3 => exact box3 z h l hl

theorem scoreRow (m : Ideal .f32) (h : Inv a 100 acc) (l : Fin 128) (hl : l.val < 100) :
    stored z m acc (ix2 4 l) = a.outScore l.val := by
  unfold Args.outScore stored
  rw [row4]
  by_cases hc : l.val < a.clusters
  · rw [if_pos hc, if_pos ((flag_iff h l hl).mpr hc), h.top l hl hc]
  · rw [if_neg hc, if_neg fun h' => hc ((flag_iff h l hl).mp h')]

theorem labRow (m : Ideal .f32) (h : Inv a 100 acc) (l : Fin 128) (hl : l.val < 100) :
    stored z m acc (ix2 5 l) = a.outLab l.val := by
  unfold Args.outLab stored
  rw [row5]
  by_cases hc : l.val < a.clusters
  · rw [if_pos hc, if_pos ((flag_iff h l hl).mpr hc), h.lab l hl hc]
  · rw [if_neg hc, if_neg fun h' => hc ((flag_iff h l hl).mp h')]

end Results

end Cert.Proof.KI
-- ==== Proof.Math.Entry.lean ====
/-
The launch's arguments as the boxes, scores and labels of the specification, and what the precondition says of them.
-/
module

public import proofs.«01_k».proof.Proof.Gen.Pre_pre
public import proofs.«01_k».proof.Proof.Math.Spec
public import proofs.«01_k».proof.Proof.Math.Shapes
public import proofs.«01_k».proof.Proof.Math.Words
public import Idealize.ShloMosaic.Lib.ReduceAll
public import Idealize.ShloMosaic.PureOps.Reduce

@[expose] public section

noncomputable section

namespace Cert.Proof.Entry

open Idealize.ShloMosaic Cert.Proof.Spec Cert.Proof.Words Cert.Proof.Shapes Cert.Pre_pre

variable (X : FVec Ideal S20000x4 .f32) (S : FVec Ideal S20000 .f32) (L : IVec S20000 32)

/-- The arguments, read as boxes, scores and labels. -/
def argsOf : Args where
  box i d := X (ix2 i d)
  score i := S (ix1 i)
  label i := L (ix1 i)

/-- The largest element of the boxes' array. -/
theorem max_all (x : FVec Ideal S20000x4 .f32) (v : FVec Ideal S_ .f32) (hv : v (Shape.Idx.first (by decide)) = (⊥ : EReal))
    (h : S20000x4.ReducesTo [0, 1] S_) (hu : 0 < S_.numel) (j : S_.Idx) :
    Host.reduce FloatOps.maximumf x v h hu j
      = (Finset.univ.sup fun i : Fin N => Finset.univ.sup fun d : Fin 4 => (x (ix2 i d) : EReal)) := by
  refine (Host.reduce_eq_fold (α := EReal) max x v h hu j).trans ?_
  rw [Finset.filter_true_of_mem fun i _ => Subsingleton.elim _ _]
  refine (congrArg (fun b => Finset.fold max b x Finset.univ) hv).trans ?_
  show Finset.univ.sup x = _
  refine le_antisymm (Finset.sup_le fun i _ => ?_) (Finset.sup_le fun i _ => Finset.sup_le fun d _ => ?_)
  · rw [eq_ix2 i]
    exact le_trans (Finset.le_sup (f := fun d : Fin 4 => (x (ix2 (i 0) d) : EReal)) (Finset.mem_univ (i 1)))
      (Finset.le_sup (f := fun i : Fin N => Finset.univ.sup fun d : Fin 4 => (x (ix2 i d) : EReal)) (Finset.mem_univ (i 0)))
  · exact Finset.le_sup (f := x) (Finset.mem_univ (ix2 i d))

/-- Coordinate `d` of every box, at a box. -/
theorem column_at (d : Fin 4) (x : FVec Ideal S20000x4 .f32) (h : S20000x4.Slices ![0, d.val] S20000x1)
    (h' : S20000x1.ShapeCasts S20000) (i : Fin N) :
    shapeCast S20000 (extractStridedSlice S20000x1 ![0, d.val] x h) h' (ix1 i) = x (ix2 i d) := by
  rw [cast_at _ _ (ix1 i) (ix2 i 0) (by rw [row_list, row_plane]; simp)]
  refine congrArg x (funext fun a => Fin.ext ?_)
  fin_cases a
  · show 0 + i.val = i.val; omega
  · show d.val + 0 = d.val; rfl

theorem finite_of {x : EReal} (h : max x (-x) < ⊤) : x < ⊤ ∧ ⊥ < x := by
  obtain ⟨h1, h2⟩ := max_lt_iff.mp h
  refine ⟨h1, bot_lt_iff_ne_bot.mpr fun e => ?_⟩
  rw [e] at h2
  exact absurd h2 (by simp)

theorem cmpi_sge_one {x y : BitVec 32} : IntOp.cmpi .sge x y = 1#1 ↔ y.toInt ≤ x.toInt := by
  unfold IntOp.cmpi; rw [ofBool_one]; simp [BitVec.sle_iff_toInt_le]

theorem ofBits_zero : (FloatOps.ofBits .f32 0x00000000#32 : Ideal .f32) = (0 : EReal) := Ideal.ofBits_zero_f32

theorem oge_at {s : Shape} {x y : FVec Ideal s .f32} {j : s.Idx} (h : cmpf .oge x y j = 1#1) : (y j : EReal) ≤ x j :=
  cmp_oge.mp h

theorem neg_first : (constant S_ .f32 0xFF800000#32 : FVec Ideal S_ .f32) (Shape.Idx.first (by decide)) = (⊥ : EReal) :=
  Spec.Args.minus_inf

/-- The precondition gives what the certificate assumes. -/
theorem good_of (h : Cert.Pre_pre.fn (F := Ideal) X S L = fun _ => 1#1) : (argsOf X S L).Good := by
  have e := congrFun h (ix0)
  unfold Cert.Pre_pre.fn Cert.Pre_pre.fn_part1 at e
  dsimp only at e
  simp only [andi, andi_one] at e
  obtain ⟨⟨⟨⟨⟨e1, e2⟩, e3⟩, e4⟩, e5⟩, e6⟩ := e
  have f : ∀ i d, X (ix2 i d) < (⊤ : EReal) ∧ ⊥ < (X (ix2 i d) : EReal) := fun i d =>
    finite_of ((cmp_olt.mp (Host.reduce_andi_all _ _ _ _ _ e1 (ix2 i d))).trans_eq Spec.Args.plus_inf)
  refine ⟨fun i d => (f i d).1, fun i d => (f i d).2, fun i => ?_, fun i => ?_, ?_, fun i => ?_, fun i => ?_⟩
  · have h1 := cmp_olt.mp (Host.reduce_andi_all _ _ _ _ _ e2 (ix1 i))
    exact (column_at 0 X _ _ i).symm.trans_lt (h1.trans_eq (column_at 2 X _ _ i))
  · have h1 := cmp_olt.mp (Host.reduce_andi_all _ _ _ _ _ e3 (ix1 i))
    exact (column_at 1 X _ _ i).symm.trans_lt (h1.trans_eq (column_at 3 X _ _ i))
  · have h1 := oge_at e4
    have h2 := le_of_le_of_eq (le_of_eq_of_le ofBits_zero.symm h1) (max_all X (constant S_ .f32 0xFF800000#32) neg_first _ _ _)
    obtain ⟨i, -, hi⟩ := Finset.exists_mem_eq_sup (Finset.univ : Finset (Fin N)) ⟨0, Finset.mem_univ 0⟩
      (fun i => Finset.univ.sup fun d : Fin 4 => (X (ix2 i d) : EReal))
    obtain ⟨d, -, hd⟩ := Finset.exists_mem_eq_sup (Finset.univ : Finset (Fin 4)) ⟨0, Finset.mem_univ 0⟩
      (fun d => (X (ix2 i d) : EReal))
    exact ⟨i, d, h2.trans_eq (hi.trans hd)⟩
  · exact ofBits_zero.symm.trans_le (cmp_oge.mp (Host.reduce_andi_all _ _ _ _ _ e5 (ix1 i)))
  · exact cmpi_sge_one.mp (Host.reduce_andi_all _ _ _ _ _ e6 (ix1 i))

end Cert.Proof.Entry
-- ==== Proof.KI.Value.lean ====
/-
The kernel's results: from the launch's six planes to the specification's boxes, scores and labels.
-/
module

public import proofs.«01_k».proof.Proof.KI.Host
public import proofs.«01_k».proof.Proof.KI.Lanes
public import proofs.«01_k».proof.Proof.Math.Entry
public import Idealize.ShloMosaic.Lib.VecWindow

@[expose] public section

noncomputable section

namespace Cert.Proof.KI

open Cert.KernelIdeal Cert.KernelIdeal.Gen Cert.Proof.Shapes Cert.Proof.Spec Cert.Proof.Entry
open Idealize.ShloMosaic Idealize.ShloMosaic.TcCoe Idealize.ShloMosaic.Tactic

/-! ## The planes -/

section Planes

variable (X : FVec Ideal S20000x4 .f32) (S : FVec Ideal S20000 .f32) (L : IVec S20000 32)

theorem pay26_eq (v : Vec Ideal S160x128 .f32) : (k0_pay26 v : FVec Ideal S160x128 .f32) = v := shapeCast_id _ _
theorem pay27_eq (v : Vec Ideal S160x128 .f32) : (k0_pay27 v : FVec Ideal S160x128 .f32) = v := shapeCast_id _ _
theorem pay28_eq (v : Vec Ideal S160x128 .f32) : (k0_pay28 v : FVec Ideal S160x128 .f32) = v := shapeCast_id _ _
theorem pay29_eq (v : Vec Ideal S160x128 .f32) : (k0_pay29 v : FVec Ideal S160x128 .f32) = v := shapeCast_id _ _

theorem lin_ge (j : S160x128.Idx) (h : ∀ i, at' i ≠ j) : N ≤ lin j := by
  by_contra hn
  exact h _ (at_of_lin j (not_le.mp hn))

/-- Column zero lies under column two, one under three, and the padding under the largest: the planes' largest is the
    boxes'. -/
theorem sup_planes (g : (argsOf X S L).Good) :
    (Finset.univ.sup fun j => max (plane (column2 X) j : EReal) (plane (column3 X) j))
      = Finset.univ.sup fun i : Fin N => Finset.univ.sup fun d : Fin 4 => (X (ix2 i d) : EReal) := by
  have le : ∀ (i : Fin N) (d : Fin 4), (X (ix2 i d) : EReal)
      ≤ Finset.univ.sup fun i : Fin N => Finset.univ.sup fun d : Fin 4 => (X (ix2 i d) : EReal) := fun i d =>
    le_trans (Finset.le_sup (f := fun d : Fin 4 => (X (ix2 i d) : EReal)) (Finset.mem_univ d))
      (Finset.le_sup (f := fun i : Fin N => Finset.univ.sup fun d : Fin 4 => (X (ix2 i d) : EReal)) (Finset.mem_univ i))
  refine le_antisymm (Finset.sup_le fun j _ => ?_) (Finset.sup_le fun i _ => Finset.sup_le fun d _ => ?_)
  · by_cases h : ∃ i, at' i = j
    · obtain ⟨i, rfl⟩ := h
      rw [plane_at, plane_at, column2_at, column3_at]
      exact max_le (le i 2) (le i 3)
    · have hj := lin_ge j (fun i e => h ⟨i, e⟩)
      obtain ⟨i, d, h0⟩ := g.max_nonneg
      rw [plane_off _ _ hj, plane_off _ _ hj, max_self]
      exact le_trans h0 (le i d)
  · refine le_trans ?_ (Finset.le_sup (f := fun j => max (plane (column2 X) j : EReal) (plane (column3 X) j))
      (Finset.mem_univ (at' i)))
    show _ ≤ max (plane (column2 X) (at' i) : EReal) (plane (column3 X) (at' i))
    rw [plane_at, plane_at, column2_at, column3_at]
    have hx : (X (ix2 i 0) : EReal) < X (ix2 i 2) := g.x_lt i
    have hy : (X (ix2 i 1) : EReal) < X (ix2 i 3) := g.y_lt i
    fin_cases d
    · exact le_max_of_le_left hx.le
    · exact le_max_of_le_right hy.le
    · exact le_max_left _ _
    · exact le_max_right _ _

/-- The scalar the body adds to the boxes, times the label. -/
theorem shift_eq (g : (argsOf X S L).Good) :
    (k0_pay30 (plane (column2 X)) (plane (column3 X)) : Ideal .f32) = (argsOf X S L).shift := by
  unfold k0_pay30
  dsimp only
  rw [max_total, pay26_eq, pay27_eq]
  have e := sup_planes X S L g
  refine (congrArg₂ (fun a b : EReal => a + b) e ?_ : _)
  exact Ideal.ofBits_one_f32

section
variable (v0 v2 v4 v6 v10 : Vec Ideal S160x128 .f32) (j : S160x128.Idx)

theorem pay31_eq : (k0_pay31 v0 v4 v6 v10 : FVec Ideal S160x128 .f32) j = ((v0 j : EReal) + v10 j * k0_pay30 v4 v6 : EReal) := by
  unfold k0_pay31
  rw [shapeCast_id, pay29_eq]
  rfl
theorem pay32_eq : (k0_pay32 v0 v4 v6 v10 : FVec Ideal S160x128 .f32) j = ((v0 j : EReal) + v10 j * k0_pay30 v4 v6 : EReal) := by
  unfold k0_pay32
  rw [shapeCast_id, pay29_eq]
  rfl
theorem pay33_eq : (k0_pay33 v4 v6 v10 : FVec Ideal S160x128 .f32) j = ((v4 j : EReal) + v10 j * k0_pay30 v4 v6 : EReal) := by
  unfold k0_pay33
  rw [pay26_eq, pay29_eq]
  rfl
theorem pay34_eq : (k0_pay34 v4 v6 v10 : FVec Ideal S160x128 .f32) j = ((v6 j : EReal) + v10 j * k0_pay30 v4 v6 : EReal) := by
  unfold k0_pay34
  rw [pay27_eq, pay29_eq]
  rfl
theorem pay35_eq : (k0_pay35 v0 v2 v4 v6 v10 : FVec Ideal S160x128 .f32) j
    = (((k0_pay33 v4 v6 v10 : FVec Ideal S160x128 .f32) j - (k0_pay31 v0 v4 v6 v10 : FVec Ideal S160x128 .f32) j : EReal)
      * ((k0_pay34 v4 v6 v10 : FVec Ideal S160x128 .f32) j - (k0_pay32 v2 v4 v6 v10 : FVec Ideal S160x128 .f32) j) : EReal) := rfl
end

/-- The labels' plane. -/
theorem lab_at (i : Fin N) : (plane (sitofp .f32 L) (at' i) : EReal) = (argsOf X S L).lab i := by
  rw [plane_at]; rfl

/-- The body's planes hold the shifted boxes, their areas, the scores and the labels. -/
theorem planes (g : (argsOf X S L).Good) : Planes (argsOf X S L) (k0_pay28 (plane S)) (k0_pay29 (plane (sitofp .f32 L)))
    (k0_pay31 (plane (column0 X)) (plane (column2 X)) (plane (column3 X)) (plane (sitofp .f32 L)))
    (k0_pay32 (plane (column1 X)) (plane (column2 X)) (plane (column3 X)) (plane (sitofp .f32 L)))
    (k0_pay33 (plane (column2 X)) (plane (column3 X)) (plane (sitofp .f32 L)))
    (k0_pay34 (plane (column2 X)) (plane (column3 X)) (plane (sitofp .f32 L)))
    (k0_pay35 (plane (column0 X)) (plane (column1 X)) (plane (column2 X)) (plane (column3 X)) (plane (sitofp .f32 L))) := by
  have e0 : ∀ i, (k0_pay31 (plane (column0 X)) (plane (column2 X)) (plane (column3 X)) (plane (sitofp .f32 L)) : FVec Ideal S160x128 .f32) (at' i)
      = (argsOf X S L).co 0 i := fun i => by
    rw [pay31_eq, shift_eq X S L g, plane_at, column0_at, lab_at X S L]; rfl
  have e1 : ∀ i, (k0_pay32 (plane (column1 X)) (plane (column2 X)) (plane (column3 X)) (plane (sitofp .f32 L)) : FVec Ideal S160x128 .f32) (at' i)
      = (argsOf X S L).co 1 i := fun i => by
    rw [pay32_eq, shift_eq X S L g, plane_at, column1_at, lab_at X S L]; rfl
  have e2 : ∀ i, (k0_pay33 (plane (column2 X)) (plane (column3 X)) (plane (sitofp .f32 L)) : FVec Ideal S160x128 .f32) (at' i)
      = (argsOf X S L).co 2 i := fun i => by
    rw [pay33_eq, shift_eq X S L g, plane_at, column2_at, lab_at X S L]; rfl
  have e3 : ∀ i, (k0_pay34 (plane (column2 X)) (plane (column3 X)) (plane (sitofp .f32 L)) : FVec Ideal S160x128 .f32) (at' i)
      = (argsOf X S L).co 3 i := fun i => by
    rw [pay34_eq, shift_eq X S L g, plane_at, column3_at, lab_at X S L]; rfl
  refine ⟨fun i => ?_, fun i => ?_, fun j h => ?_, e0, e1, e2, e3, fun i => ?_⟩
  · rw [pay28_eq, plane_at]; rfl
  · rw [pay29_eq, lab_at X S L]
  · rw [pay29_eq, plane_off _ _ (lin_ge j h)]
  · rw [pay35_eq, e0, e1, e2, e3]; rfl

end Planes

/-! ## The body's value -/

section Body

variable (c : Dev nD) {M0 : Memref sig .tc .vmem S160x128 .f32} (h0 : M0.IsWhole) {M1 : Memref sig .tc .vmem S160x128 .f32} (h1 : M1.IsWhole)
  {M2 : Memref sig .tc .vmem S160x128 .f32} (h2 : M2.IsWhole) {M3 : Memref sig .tc .vmem S160x128 .f32} (h3 : M3.IsWhole)
  {M4 : Memref sig .tc .vmem S160x128 .f32} (h4 : M4.IsWhole) {M5 : Memref sig .tc .vmem S160x128 .f32} (h5 : M5.IsWhole)
  {M6 : Memref sig .tc .vmem S8x128 .f32} (h6 : M6.IsWhole)
  (x0 x1 x2 x3 x4 x5 : Vec Ideal S160x128 .f32)

/-- A whole buffer's load is what it holds. -/
theorem load_whole {M : Memref sig .tc .vmem S160x128 .f32} (h : M.IsWhole) (x : Vec Ideal S160x128 .f32) :
    View.readAt (Elt Ideal) M.view (Rect.unit ![0, 0] ![160, 128] inb_S160x128_S160x128_0_0).toLoadRect (h.unread x) = x :=
  (View.readAt_full _ _ inb_S160x128_S160x128_0_0).trans (h.read_unread x)

/-- What the hundred trips end with. -/
def folded : Acc :=
  Scf.fold (PI.trip (k0_pay28 x4) (k0_pay29 x5) (k0_pay31 x0 x2 x3 x5) (k0_pay32 x1 x2 x3 x5) (k0_pay33 x2 x3 x5)
      (k0_pay34 x2 x3 x5) (k0_pay35 x0 x1 x2 x3 x5) k0_pay36 lanes)
    (k0_pay1 k0_pay38 (FloatOps.ofBits .f32 0x3F800000#32 : Ideal .f32),
      k0_pay37, k0_pay37, k0_pay37, k0_pay37, k0_pay37, k0_pay37, k0_pay37, k0_pay37)

theorem run_value :
    (PI.kernelRun c M0 h0 M1 h1 M2 h2 M3 h3 M4 h4 M5 h5 M6 h6 x0 x1 x2 x3 x4 x5).1
      = stored k0_pay37 (k0_pay30 x2 x3) (folded x0 x1 x2 x3 x4 x5) := by
  unfold PI.kernelRun
  dsimp only [PI.kernelRun.sl.H6_1]
  rw [show PI.kernelRun.sl.r c M4 h4 x4 = (k0_pay28 x4 : FVec Ideal S160x128 .f32) by
      dsimp only [PI.kernelRun.sl.r]; rw [load_whole],
    show PI.kernelRun.sl.r_1 c M5 h5 x5 = (k0_pay29 x5 : FVec Ideal S160x128 .f32) by
      dsimp only [PI.kernelRun.sl.r_1]; rw [load_whole],
    show PI.kernelRun.sl.r_2 c M2 h2 M3 h3 x2 x3 = (k0_pay30 x2 x3 : Ideal .f32) by
      dsimp only [PI.kernelRun.sl.r_2]; rw [load_whole, load_whole],
    show PI.kernelRun.sl.r_3 c M0 h0 M2 h2 M3 h3 M5 h5 x0 x2 x3 x5 = (k0_pay31 x0 x2 x3 x5 : FVec Ideal S160x128 .f32) by
      dsimp only [PI.kernelRun.sl.r_3]; rw [load_whole, load_whole, load_whole, load_whole],
    show PI.kernelRun.sl.r_4 c M1 h1 M2 h2 M3 h3 M5 h5 x1 x2 x3 x5 = (k0_pay32 x1 x2 x3 x5 : FVec Ideal S160x128 .f32) by
      dsimp only [PI.kernelRun.sl.r_4]; rw [load_whole, load_whole, load_whole, load_whole],
    show PI.kernelRun.sl.r_5 c M2 h2 M3 h3 M5 h5 x2 x3 x5 = (k0_pay33 x2 x3 x5 : FVec Ideal S160x128 .f32) by
      dsimp only [PI.kernelRun.sl.r_5]; rw [load_whole, load_whole, load_whole],
    show PI.kernelRun.sl.r_6 c M2 h2 M3 h3 M5 h5 x2 x3 x5 = (k0_pay34 x2 x3 x5 : FVec Ideal S160x128 .f32) by
      dsimp only [PI.kernelRun.sl.r_6]; rw [load_whole, load_whole, load_whole],
    show PI.kernelRun.sl.r_7 c M0 h0 M1 h1 M2 h2 M3 h3 M5 h5 x0 x1 x2 x3 x5
        = (k0_pay35 x0 x1 x2 x3 x5 : FVec Ideal S160x128 .f32) by
      dsimp only [PI.kernelRun.sl.r_7]; rw [load_whole, load_whole, load_whole, load_whole, load_whole]]
  exact View.read_writes_full _ _ inb_S8x128_S8x128_0_0 _ _

end Body

end Cert.Proof.KI
-- ==== Proof.KI.Launch.lean ====
/-
The launch's one point: the blocks it reads and what its result array ends with.
-/
module

public import proofs.«01_k».proof.Proof.KI.Value

@[expose] public section

noncomputable section

namespace Cert.Proof.KI

open Cert.KernelIdeal Cert.KernelIdeal.Gen Cert.Proof.Shapes Cert.Proof.Spec Cert.Proof.Entry
open Idealize.ShloMosaic Idealize.ShloMosaic.TcCoe Idealize.ShloMosaic.Tactic

/-! ## The launch's result -/

variable (m : (ℓ : Loc nD τ sig) → Buf (Elt Ideal) ℓ) (c : Dev nD)

/-- The launch's arguments. -/
abbrev args : Args := argsOf (m (c.tc.loc main_arg0)) (m (c.tc.loc main_arg1)) (m (c.tc.loc main_arg2))

/-- The launch's one point. -/
def t₀ : Fin cfg0.N := ⟨0, by decide⟩

theorem blk0 : iblk m c 0 t₀ = plane (column0 (m (c.tc.loc main_arg0))) :=
  (Memref.read_access_unit_zero (Elt Ideal) main_v4 (off := fun a => (win0_0.index t₀) a * main_v4.ty.shape.size a)
    (funext fun a => by fin_cases a <;> decide) (fun a => by fin_cases a <;> decide) _).trans (v4_eq m c)
theorem blk1 : iblk m c 1 t₀ = plane (column1 (m (c.tc.loc main_arg0))) :=
  (Memref.read_access_unit_zero (Elt Ideal) main_v8 (off := fun a => (win0_1.index t₀) a * main_v8.ty.shape.size a)
    (funext fun a => by fin_cases a <;> decide) (fun a => by fin_cases a <;> decide) _).trans (v8_eq m c)
theorem blk2 : iblk m c 2 t₀ = plane (column2 (m (c.tc.loc main_arg0))) :=
  (Memref.read_access_unit_zero (Elt Ideal) main_v12 (off := fun a => (win0_2.index t₀) a * main_v12.ty.shape.size a)
    (funext fun a => by fin_cases a <;> decide) (fun a => by fin_cases a <;> decide) _).trans (v12_eq m c)
theorem blk3 : iblk m c 3 t₀ = plane (column3 (m (c.tc.loc main_arg0))) :=
  (Memref.read_access_unit_zero (Elt Ideal) main_v16 (off := fun a => (win0_3.index t₀) a * main_v16.ty.shape.size a)
    (funext fun a => by fin_cases a <;> decide) (fun a => by fin_cases a <;> decide) _).trans (v16_eq m c)
theorem blk4 : iblk m c 4 t₀ = plane (m (c.tc.loc main_arg1)) :=
  (Memref.read_access_unit_zero (Elt Ideal) main_v18 (off := fun a => (win0_4.index t₀) a * main_v18.ty.shape.size a)
    (funext fun a => by fin_cases a <;> decide) (fun a => by fin_cases a <;> decide) _).trans (v18_eq m c)
theorem blk5 : iblk m c 5 t₀ = plane (sitofp .f32 (m (c.tc.loc main_arg2))) :=
  (Memref.read_access_unit_zero (Elt Ideal) main_v20 (off := fun a => (win0_5.index t₀) a * main_v20.ty.shape.size a)
    (funext fun a => by fin_cases a <;> decide) (fun a => by fin_cases a <;> decide) _).trans (v20_eq m c)

/-- The launch's result array after the run. -/
theorem final_out : (PI.dats (F := Ideal) m 0 c).arrAt (6 : Fin 7) cfg0.N = PI.outsAt m c t₀ := by
  have ho : ((cfg0.win (6 : Fin 7)).blk t₀).view.read (Elt Ideal) ((PI.dats (F := Ideal) m 0 c).arrAt (6 : Fin 7) cfg0.N)
      = (PI.dats (F := Ideal) m 0 c).flushed (6 : Fin 7) t₀ := by
    rw [show cfg0.N = (t₀ : Fin cfg0.N).val + 1 from rfl, (PI.dats (F := Ideal) m 0 c).arrAt_succ (6 : Fin 7) t₀]
    rw [show (cfg0.win (6 : Fin 7)).flush t₀ = true from by decide, if_pos rfl]
    exact View.read_write_univ _ _
  have hr := fun f => Memref.read_access_unit_zero (Elt Ideal) main_v21
    (off := fun a => (win0_6.index t₀) a * main_v21.ty.shape.size a)
    (funext fun a => by fin_cases a <;> decide) (fun a => by fin_cases a <;> decide) f
  exact (hr _).symm.trans (ho.trans (PI.after0_6 m c t₀))

end Cert.Proof.KI
-- ==== Proof.Math.Out.lean ====
/-
The three results of the specification as arrays.
-/
module

public import proofs.«01_k».proof.Proof.Math.Spec

@[expose] public section

noncomputable section

namespace Cert.Proof.Out

open Idealize.ShloMosaic Cert.Proof.Spec

/-- The boxes. -/
def boxes (a : Args) : FVec Ideal ⟨2, ![100, 4]⟩ .f32 := fun j => a.outBox (j 0).val (j 1)

/-- The scores. -/
def scores (a : Args) : FVec Ideal ⟨1, ![100]⟩ .f32 := fun j => a.outScore (j 0).val

/-- The labels. -/
def labels (a : Args) : FVec Ideal ⟨1, ![100]⟩ .f32 := fun j => a.outLab (j 0).val

end Cert.Proof.Out
-- ==== Proof.KI.Result.lean ====
/-
The kernel's run ends with the specification's boxes, scores and labels.
-/
module

public import proofs.«01_k».proof.Proof.KI.Launch
public import proofs.«01_k».proof.Proof.Math.Out

@[expose] public section

noncomputable section

namespace Cert.Proof.KI

open Cert.KernelIdeal Cert.KernelIdeal.Gen Cert.Proof.Shapes Cert.Proof.Spec Cert.Proof.Entry
open Idealize.ShloMosaic Idealize.ShloMosaic.TcCoe Idealize.ShloMosaic.Tactic Idealize.SL.Sem

variable (m : (ℓ : Loc nD τ sig) → Buf (Elt Ideal) ℓ) (ρ : Dev nD → PrngReg) (c : Dev nD)

/-- What the launch leaves in its result array: rows 0 to 3 the boxes' coordinates, row 4 the scores, row 5 the labels. -/
theorem out_rows (g : (args m c).Good) :
    (∀ (l : Fin 128) (hl : l.val < 100) (d : Fin 4), PI.outsAt m c t₀ (ix2 ⟨d.val, by omega⟩ l) = (args m c).outBox l.val d)
    ∧ (∀ (l : Fin 128) (hl : l.val < 100), PI.outsAt m c t₀ (ix2 4 l) = (args m c).outScore l.val)
    ∧ (∀ (l : Fin 128) (hl : l.val < 100), PI.outsAt m c t₀ (ix2 5 l) = (args m c).outLab l.val) := by
  have e : PI.outsAt m c t₀ = stored k0_pay37 (args m c).shift
      (folded (plane (column0 (m (c.tc.loc main_arg0)))) (plane (column1 (m (c.tc.loc main_arg0))))
        (plane (column2 (m (c.tc.loc main_arg0)))) (plane (column3 (m (c.tc.loc main_arg0))))
        (plane (m (c.tc.loc main_arg1))) (plane (sitofp .f32 (m (c.tc.loc main_arg2))))) := by
    unfold PI.outsAt
    rw [run_value, blk0, blk1, blk2, blk3, blk4, blk5,
      shift_eq _ _ _ g]
  have h : Inv (args m c) 100 (folded (plane (column0 (m (c.tc.loc main_arg0)))) (plane (column1 (m (c.tc.loc main_arg0))))
        (plane (column2 (m (c.tc.loc main_arg0)))) (plane (column3 (m (c.tc.loc main_arg0))))
        (plane (m (c.tc.loc main_arg1))) (plane (sitofp .f32 (m (c.tc.loc main_arg2))))) :=
    inv_fold g (planes _ _ _ g) _ inv_start
  rw [e]
  exact ⟨fun l hl d => box _ h l hl d, fun l hl => scoreRow _ _ h l hl, fun l hl => labRow _ _ h l hl⟩

/-- The contents after the host lines that follow the launch. -/
abbrev tail (b : Ref sig .tc) := Pipeline.afterTail₀ cfgs (PI.dats m) 0 (V0 m) [hostOps1] c b

/-- What the lines after the launch find in the launch's result array. -/
theorem after_out : Pipeline.withArrays (cfgs 0).spec c (V0 m c) (fun w => (PI.dats m 0 c).arrAt w (cfgs 0).N) (Proc.devRef .tc main_v21)
    = PI.outsAt m c t₀ :=
  (Pipeline.withArrays_arr spec0 winFacts0.arr_inj c (V0 m c) _ 6).trans (final_out m c)

theorem tail23 : tail m c main_v23 = transpose S100x4 [1, 0] (extractStridedSlice S4x100 ![0, 0] (PI.outsAt m c t₀)
    slices_S8x128_S4x100_0_0) transposes_S4x100_S100x4_1_0 := by
  unfold tail Pipeline.afterTail₀
  after_reads_simp
  rw [after_out]

theorem tail25 : tail m c main_v25 = shapeCast S100 (extractStridedSlice S1x100 ![4, 0] (PI.outsAt m c t₀)
    slices_S8x128_S1x100_4_0) shapeCasts_S1x100_S100 := by
  unfold tail Pipeline.afterTail₀
  after_reads_simp
  rw [after_out]
  rfl

theorem tail27 : tail m c main_v27 = shapeCast S100 (extractStridedSlice S1x100 ![5, 0] (PI.outsAt m c t₀)
    slices_S8x128_S1x100_5_0) shapeCasts_S1x100_S100 := by
  unfold tail Pipeline.afterTail₀
  after_reads_simp
  rw [after_out]
  rfl

/-- The first 100 entries of the first four rows, turned. -/
theorem turned (v : FVec Ideal S8x128 .f32) (l : Fin 100) (d : Fin 4) :
    transpose S100x4 [1, 0] (extractStridedSlice S4x100 ![0, 0] v slices_S8x128_S4x100_0_0) transposes_S4x100_S100x4_1_0 (ix2 l d)
      = v (ix2 ⟨d.val, by omega⟩ ⟨l.val, by omega⟩) := by
  pointwise

/-- The first 100 entries of a row. -/
theorem firsts4 (v : FVec Ideal S8x128 .f32) (l : Fin 100) :
    shapeCast S100 (extractStridedSlice S1x100 ![4, 0] v slices_S8x128_S1x100_4_0) shapeCasts_S1x100_S100 (ix1 l)
      = v (ix2 4 ⟨l.val, by omega⟩) := by
  rw [cast_at _ _ (ix1 l) (ix2 0 l) (by rw [row_list, row_plane]; simp)]
  pointwise

theorem firsts5 (v : FVec Ideal S8x128 .f32) (l : Fin 100) :
    shapeCast S100 (extractStridedSlice S1x100 ![5, 0] v slices_S8x128_S1x100_5_0) shapeCasts_S1x100_S100 (ix1 l)
      = v (ix2 5 ⟨l.val, by omega⟩) := by
  rw [cast_at _ _ (ix1 l) (ix2 0 l) (by rw [row_list, row_plane]; simp)]
  pointwise

/-- The three results. -/
theorem results (g : (args m c).Good) :
    tail m c main_v23 = Out.boxes (args m c) ∧ tail m c main_v25 = Out.scores (args m c)
      ∧ tail m c main_v27 = Out.labels (args m c) := by
  obtain ⟨hb, hs, hl⟩ := out_rows m c g
  rw [tail23, tail25, tail27]
  refine ⟨funext fun j => ?_, funext fun j => ?_, funext fun j => ?_⟩
  · obtain ⟨l, d, rfl⟩ : ∃ (l : Fin 100) (d : Fin 4), j = ix2 l d := ⟨j 0, j 1, eq_ix2 j⟩
    exact (turned _ l d).trans (hb ⟨l.val, by omega⟩ l.isLt d)
  · obtain ⟨l, rfl⟩ : ∃ (l : Fin 100), j = ix1 l := ⟨j 0, eq_ix1 j⟩
    exact (firsts4 _ l).trans (hs ⟨l.val, by omega⟩ l.isLt)
  · obtain ⟨l, rfl⟩ : ∃ (l : Fin 100), j = ix1 l := ⟨j 0, eq_ix1 j⟩
    exact (firsts5 _ l).trans (hl ⟨l.val, by omega⟩ l.isLt)

/-- Every run of the kernel ends with the specification's boxes, scores and labels, the arguments as they were. -/
theorem value (g : ∀ c, (args m c).Good) :
    θ_run defs (onTc (τ := τ) (main (F := Ideal))) ⟨m, fun _ => 0, ρ⟩ (fun r => ∀ c : Dev nD,
      r.2.mem ((c.tc : Thread nD τ).loc main_v23) = Out.boxes (args m c)
      ∧ r.2.mem ((c.tc : Thread nD τ).loc main_v25) = Out.scores (args m c)
      ∧ r.2.mem ((c.tc : Thread nD τ).loc main_v27) = Out.labels (args m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) := by
  refine (θ_run defs _ _).mono (fun r h c => ?_) (PI.run_main m ρ)
  have k := (h.1 c).2
  obtain ⟨r0, r1, r2⟩ := results m c (g c)
  exact ⟨(k main_v23 (Pipeline.mem_restRefs_of main_v23 (by decide) (by decide))).trans r0,
    (k main_v25 (Pipeline.mem_restRefs_of main_v25 (by decide) (by decide))).trans r1,
    (k main_v27 (Pipeline.mem_restRefs_of main_v27 (by decide) (by decide))).trans r2,
    (k main_arg0 (Pipeline.mem_restRefs_of main_arg0 (by decide) (by decide))).trans (W_main_arg0 m (PI.dats m) c),
    (k main_arg1 (Pipeline.mem_restRefs_of main_arg1 (by decide) (by decide))).trans (W_main_arg1 m (PI.dats m) c),
    (k main_arg2 (Pipeline.mem_restRefs_of main_arg2 (by decide) (by decide))).trans (W_main_arg2 m (PI.dats m) c)⟩

end Cert.Proof.KI
-- ==== Proof.RV.Loop.lean ====
/-
The reference's loop, one trip and then all of them: after `t` trips the assigned positions are those no longer open,
and a position that step `j` took carries the cluster number `j`.
-/
module

public import proofs.«01_k».proof.Proof.Gen.ReferenceIdeal.Run
public import proofs.«01_k».proof.Proof.Math.Shapes
public import proofs.«01_k».proof.Proof.Math.Entry
public import Idealize.ShloMosaic.Lib.ReduceAll
public import Idealize.ShloMosaic.Lib.Routing.OpsPair
public import Idealize.ShloMosaic.Lib.WordCmp

@[expose] public section

noncomputable section

namespace Cert.Proof.RV

open Cert.ReferenceIdeal Cert.ReferenceIdeal.Gen Cert.ReferenceIdeal.Value
open Cert.Proof.Words Cert.Proof.Spec Cert.Proof.Greedy Cert.Proof.Sorted Cert.Proof.Shapes Cert.Proof.Entry
open Idealize.ShloMosaic.WordCmp (dynamicSlice_eq_extract)
open Idealize.ShloMosaic Idealize.ShloMosaic.TcCoe Idealize.ShloMosaic.StableHlo

/-- `select` at an index. -/
theorem sel {s : Shape} {α : Type} (c : IVec s 1) (x y : s.Idx → α) (j : s.Idx) :
    select c x y j = if c j = 1#1 then x j else y j := rfl

/-- A minimum over all of a list is the value at a position where it is least. -/
theorem least_at {n : ℕ} (f : IVec ⟨1, ![n]⟩ 32) (init : IVec S_ 32) (h : (⟨1, ![n]⟩ : Shape).ReducesTo [0] S_)
    (hu : 0 < S_.numel) (j : S_.Idx) (p : Fin n) (hle : ∀ q : Fin n, (f (ix1 p)).toInt ≤ (f (ix1 q)).toInt)
    (hi : (f (ix1 p)).toInt ≤ (init (Shape.Idx.first hu)).toInt) :
    Host.reduce IntOp.minsi f init h hu j = f (ix1 p) := by
  refine (Host.reduce_eq_fold IntOp.minsi f init h hu j).trans ?_
  rw [Finset.filter_true_of_mem fun i _ => Subsingleton.elim _ _]
  refine fold_minsi_eq _ _ f (ix1 p) (Finset.mem_univ _) (fun i _ => ?_) hi
  rw [eq_ix1 i]; exact hle _

/-- A conjunction over all of a list. -/
theorem all_iff {n : ℕ} (x : IVec ⟨1, ![n]⟩ 1) (h : (⟨1, ![n]⟩ : Shape).ReducesTo [0] S_)
    (hu : 0 < S_.numel) (j : S_.Idx) :
    Host.reduce IntOp.andi x (constantI S_ 1 1#1) h hu j = 1#1 ↔ ∀ p : Fin n, x (ix1 p) = 1#1 := by
  constructor
  · intro e p
    exact Host.reduce_andi_all x _ h hu j e _
  · intro e
    refine Host.reduce_andi_one x _ h hu j rfl fun i => ?_
    rw [eq_ix1 i]; exact e _

/-- A one-entry array spread over a shape. -/
theorem spread_at {t : Shape} {α : Type} (x : S_.Idx → α) (d : Fin S_.rank → Fin t.rank) (h : S_.BroadcastsInDim t d)
    (j : t.Idx) : broadcastInDim t d h x j = x (Shape.Idx.first h_S_) :=
  congrArg x (Subsingleton.elim _ _)

/-- The one-entry slice of a list at a position below its length, spread over the list. -/
theorem pick_at {α : Type} (w : IVec S_ 32) (x : S20000.Idx → α) (p : Fin N)
    (hw : w (Shape.Idx.first h_S_) = BitVec.ofNat 32 p.val) (hb : S_.BroadcastsInDim S20000 ![])
    (hs : S20000.Slices (fun _ => 0) S1) (hc : S1.ShapeCasts S_) (j : S20000.Idx) :
    broadcastInDim S20000 ![] hb (shapeCast S_ (Host.dynamicSlice S1 x
      (fun k => (((![select (cmpi .slt w (constantI S_ 32 0#32)) (addi w (constantI S_ 32 20000#32)) w] :
        Fin 1 → IVec S_ 32)) k (Shape.Idx.first h_S_)).toInt) hs) hc) j = x (ix1 p) := by
  have hp : p.val < 20000 := p.isLt
  have hk : S20000.Slices (fun _ => p.val) S1 := by
    refine ⟨rfl, fun a => ?_⟩
    fin_cases a
    show p.val + 1 ≤ 20000
    omega
  rw [dynamicSlice_eq_extract S1 x _ hs (fun _ => p.val) hk]
  · rw [spread_at, cast_at _ hc _ (ix1 (0 : Fin 1)) (by
      have h1 := (S1.rowMajor (ix1 (0 : Fin 1))).isLt
      have h2 := (S_.rowMajor (Shape.Idx.first h_S_)).isLt
      have e1 : S1.numel = 1 := by decide
      have e2 : S_.numel = 1 := by decide
      omega)]
    refine congrArg x (funext fun a => Fin.ext ?_)
    fin_cases a
    show p.val + 0 = p.val
    omega
  · intro a
    fin_cases a
    show (select (cmpi .slt w (constantI S_ 32 0#32)) (addi w (constantI S_ 32 20000#32)) w (Shape.Idx.first h_S_)).toInt = _
    rw [sel]
    have h0 : ¬ cmpi .slt w (constantI S_ 32 0#32) (Shape.Idx.first h_S_) = 1#1 := by
      intro e
      have := cmpi_slt_one.mp e
      rw [hw, toInt_ofNat (by omega)] at this
      have h0 : ((constantI S_ 32 0#32 : IVec S_ 32) (Shape.Idx.first h_S_)).toInt = 0 := rfl
      omega
    rw [if_neg h0, hw, toInt_ofNat (by omega)]

/-- The loop's state after `t` trips. -/
structure State (a : Args) (t : ℕ) (V : Valuation τ sig (Elt Ideal)) : Prop where
  x1 : ∀ p : Fin N, (V (Proc.devRef .tc main_v44_0) : FVec Ideal S20000 .f32) (ix1 p) = a.co 0 (a.sigma p)
  y1 : ∀ p : Fin N, (V (Proc.devRef .tc main_v44_1) : FVec Ideal S20000 .f32) (ix1 p) = a.co 1 (a.sigma p)
  x2 : ∀ p : Fin N, (V (Proc.devRef .tc main_v44_2) : FVec Ideal S20000 .f32) (ix1 p) = a.co 2 (a.sigma p)
  y2 : ∀ p : Fin N, (V (Proc.devRef .tc main_v44_3) : FVec Ideal S20000 .f32) (ix1 p) = a.co 3 (a.sigma p)
  ar : ∀ p : Fin N, (V (Proc.devRef .tc main_v44_4) : FVec Ideal S20000 .f32) (ix1 p) = a.area (a.sigma p)
  used : ∀ p : Fin N, (V (Proc.devRef .tc main_v44_6) : IVec S20000 1) (ix1 p) = 1#1 ↔ p ∉ opened a.mg t
  num : ∀ (p : Fin N) (j : ℕ), j < t → p ∈ group a.mg j →
    (V (Proc.devRef .tc main_v44_7) : IVec S20000 32) (ix1 p) = BitVec.ofNat 32 j
  count : (V (Proc.devRef .tc main_v44_8) : IVec S_ 32) (Shape.Idx.first h_S_) = BitVec.ofNat 32 (min t (steps a.mg))

/-- The state depends only on what the loop carries. -/
theorem State.congr {a : Args} {t : ℕ} {V W : Valuation τ sig (Elt Ideal)} (s : State a t V) (h : Agree W V) :
    State a t W := by
  have e : ∀ b, b ∈ carriedRefs → W (Proc.devRef .tc b) = V (Proc.devRef .tc b) := h
  refine ⟨?_, ?_, ?_, ?_, ?_, ?_, ?_, ?_⟩
  · rw [e main_v44_0 (by simp [carriedRefs])]; exact s.x1
  · rw [e main_v44_1 (by simp [carriedRefs])]; exact s.y1
  · rw [e main_v44_2 (by simp [carriedRefs])]; exact s.x2
  · rw [e main_v44_3 (by simp [carriedRefs])]; exact s.y2
  · rw [e main_v44_4 (by simp [carriedRefs])]; exact s.ar
  · rw [e main_v44_6 (by simp [carriedRefs])]; exact s.used
  · rw [e main_v44_7 (by simp [carriedRefs])]; exact s.num
  · rw [e main_v44_8 (by simp [carriedRefs])]; exact s.count

/-- The overlap's arithmetic at an index. -/
theorem overlap_at {s : Shape} {B X A Y Z B' X' A' Y' Z' : FVec Ideal s .f32} {j : s.Idx}
    {b x u y b' x' u' y' : EReal} (hB : B j = b) (hX : X j = x) (hA : A j = u) (hY : Y j = y) (hZ : Z j = (0 : EReal))
    (hB' : B' j = b') (hX' : X' j = x') (hA' : A' j = u') (hY' : Y' j = y') (hZ' : Z' j = (0 : EReal)) :
    mulf (maximumf (subf (minimumf B X) (maximumf A Y)) Z) (maximumf (subf (minimumf B' X') (maximumf A' Y')) Z') j
      = (max (min b x - max u y) 0 * max (min b' x' - max u' y') 0 : EReal) := by
  subst hB hX hA hY hB' hX' hA' hY'
  have e : mulf (maximumf (subf (minimumf B X) (maximumf A Y)) Z) (maximumf (subf (minimumf B' X') (maximumf A' Y')) Z') j
      = (max (min (B j : EReal) (X j) - max (A j : EReal) (Y j)) (Z j)
        * max (min (B' j : EReal) (X' j) - max (A' j : EReal) (Y' j)) (Z' j) : EReal) := rfl
  rw [e, hZ, hZ']

/-- The test for taking a position, at an index. -/
theorem test_at {s : Shape} {I H A T : FVec Ideal s .f32} {U E : IVec s 1} {j : s.Idx} {t : EReal} (hT : T j = t) :
    andi (andi (cmpf .oge (Host.divf I (subf (addf H A) I)) T) (noti U)) E j = 1#1
      ↔ (t ≤ Ideal.div (I j) ((H j : EReal) + A j - I j) ∧ ¬ U j = 1#1) ∧ E j = 1#1 := by
  subst hT
  have e : andi (andi (cmpf .oge (Host.divf I (subf (addf H A) I)) T) (noti U)) E j
    = IntOp.andi (IntOp.andi (Ideal.cmp .oge (Ideal.div (I j) ((H j : EReal) + A j - I j)) (T j)) (~~~ U j)) (E j) := rfl
  rw [e, andi_one, andi_one, cmp_oge, noti_one]

/-- The quotient of the test. -/
theorem quot_of {i h r i' h' r' : EReal} (hi : i = i') (hh : h = h') (hr : r = r') :
    Ideal.div i (h + r - i) = Ideal.div i' (h' + r' - i') := by rw [hi, hh, hr]

theorem zero_at (j : S20000.Idx) (h : S_.BroadcastsInDim S20000 ![]) :
    (broadcastInDim S20000 ![] h (constant S_ .f32 0x00000000#32 : FVec Ideal S_ .f32) j : Ideal .f32) = (0 : EReal) := by
  rw [spread_at]; exact ofBits_zero

theorem thr_at (j : S20000.Idx) (h : S_.BroadcastsInDim S20000 ![]) :
    (broadcastInDim S20000 ![] h (constant S_ .f32 0x3F266666#32 : FVec Ideal S_ .f32) j : Ideal .f32)
      = Ideal.ofBits .f32 0x3F266666#32 := by
  rw [spread_at]; rfl

section Trip

variable {a : Args} {t : ℕ} {V : Valuation τ sig (Elt Ideal)} (s : State a t V)
include s

/-- A trip finds the head of the open positions. -/
theorem head_at (hn : (opened a.mg t).Nonempty) :
    (res_main_while0b_v124 V : IVec S_ 32) (Shape.Idx.first h_S_) = BitVec.ofNat 32 (head (opened a.mg t)).val := by
  have val : ∀ p : Fin N, (select (V (Proc.devRef .tc main_v44_6) : IVec S20000 1)
      (broadcastInDim S20000 ![] bcast_S_S20000 (id (constantI S_ 32 19999#32))) (iotaInDim S20000 32 0)) (ix1 p)
        = if p ∉ opened a.mg t then 19999#32 else BitVec.ofNat 32 p.val := by
    intro p
    rw [sel, spread_at]
    exact if_congr (s.used p) rfl rfl
  have vh := val (head (opened a.mg t))
  rw [if_neg (not_not.mpr (head_mem hn))] at vh
  have hl : (head (opened a.mg t)).val < 20000 := (head (opened a.mg t)).isLt
  refine (least_at _ _ _ h_S_ _ (head (opened a.mg t)) (fun q => ?_) ?_).trans vh
  · rw [vh, val q, toInt_ofNat (by omega)]
    split
    · have : (19999#32).toInt = 19999 := by decide
      omega
    · rename_i h
      have hq : q.val < 20000 := q.isLt
      rw [toInt_ofNat (by omega)]
      exact_mod_cast head_le (not_not.mp h)
  · rw [vh, toInt_ofNat (by omega)]
    have : (constantI S_ 32 2147483647#32 : IVec S_ 32) (Shape.Idx.first h_S_) = 2147483647#32 := rfl
    rw [this]
    have : (2147483647#32).toInt = 2147483647 := by decide
    omega

/-- A trip knows whether any position is open. -/
theorem some_at : (res_main_while0b_v126 V : IVec S_ 1) (Shape.Idx.first h_S_) = 1#1 ↔ (opened a.mg t).Nonempty := by
  have e : (res_main_while0b_v126 V : IVec S_ 1) (Shape.Idx.first h_S_)
    = ~~~ (Host.reduce IntOp.andi (V (Proc.devRef .tc main_v44_6) : IVec S20000 1) (constantI S_ 1 1#1)
        reducesTo_S20000_S_d0 h_S_ (Shape.Idx.first h_S_)) := rfl
  rw [e, noti_one, all_iff]
  constructor
  · intro h
    obtain ⟨p, hp⟩ := not_forall.mp h
    exact ⟨p, not_not.mp fun q => hp ((s.used p).mpr q)⟩
  · rintro ⟨p, hp⟩ h
    exact (s.used p).mp (h p) hp

/-- The overlap with the head. -/
theorem inter_at (hn : (opened a.mg t).Nonempty) (p : Fin N) :
    (res_main_while0b_v161 V : FVec Ideal S20000 .f32) (ix1 p)
      = a.inter (a.sigma (head (opened a.mg t))) (a.sigma p) := by
  unfold res_main_while0b_v161
  have hw := head_at s hn
  exact overlap_at ((pick_at _ _ _ hw _ _ _ _).trans (s.x2 _)) (s.x2 p) ((pick_at _ _ _ hw _ _ _ _).trans (s.x1 _))
    (s.x1 p) (zero_at _ _) ((pick_at _ _ _ hw _ _ _ _).trans (s.y2 _)) (s.y2 p)
    ((pick_at _ _ _ hw _ _ _ _).trans (s.y1 _)) (s.y1 p) (zero_at _ _)

/-- The positions a trip takes. -/
theorem takes_at (p : Fin N) : (res_main_while0b_v176 V : IVec S20000 1) (ix1 p) = 1#1 ↔ p ∈ group a.mg t := by
  unfold res_main_while0b_v176
  refine (test_at (thr_at _ _)).trans ?_
  rw [spread_at (res_main_while0b_v126 V), some_at s, mem_group, s.used p, not_not]
  constructor
  · rintro ⟨⟨h1, h2⟩, hn⟩
    exact ⟨h2, h1.trans_eq (quot_of (inter_at s hn p) ((pick_at _ _ _ (head_at s hn) _ _ _ _).trans (s.ar _)) (s.ar p))⟩
  · rintro ⟨h2, h1⟩
    have hn : (opened a.mg t).Nonempty := ⟨p, h2⟩
    exact ⟨⟨le_of_le_of_eq h1
      (quot_of (inter_at s hn p) ((pick_at _ _ _ (head_at s hn) _ _ _ _).trans (s.ar _)) (s.ar p)).symm, h2⟩, hn⟩

/-- One trip. -/
theorem State.step (hself : ∀ p, a.mg p p) : State a (t + 1) (STEP V) := by
  refine ⟨?_, ?_, ?_, ?_, ?_, ?_, ?_, ?_⟩
  · rw [STEP_main_v44_0]; exact s.x1
  · rw [STEP_main_v44_1]; exact s.y1
  · rw [STEP_main_v44_2]; exact s.x2
  · rw [STEP_main_v44_3]; exact s.y2
  · rw [STEP_main_v44_4]; exact s.ar
  · intro p
    rw [STEP_main_v44_6]
    have e : (step_main_v44_6 V : IVec S20000 1) (ix1 p)
      = IntOp.ori ((V (Proc.devRef .tc main_v44_6) : IVec S20000 1) (ix1 p)) ((res_main_while0b_v176 V : IVec S20000 1) (ix1 p)) := rfl
    refine (Eq.congr_left e).trans ?_
    rw [ori_one, s.used p, takes_at s p, mem_opened_succ, mem_group]
    tauto
  · intro p j hj hp
    rw [STEP_main_v44_7]
    have e : (step_main_v44_7 V : IVec S20000 32) (ix1 p)
      = if (res_main_while0b_v176 V : IVec S20000 1) (ix1 p) = 1#1
        then broadcastInDim S20000 ![] bcast_S_S20000 (V (Proc.devRef .tc main_v44_8) : IVec S_ 32) (ix1 p)
        else (V (Proc.devRef .tc main_v44_7) : IVec S20000 32) (ix1 p) := rfl
    refine e.trans ?_
    rcases Nat.lt_succ_iff_lt_or_eq.mp hj with h | rfl
    · rw [if_neg fun h1 => absurd (group_disjoint a.mg hp ((takes_at s p).mp h1)) (by omega)]
      exact s.num p j h hp
    · rw [if_pos ((takes_at s p).mpr hp), spread_at, s.count, min_eq_left (lt_steps_of_mem a.mg hself hp).le]
  · rw [STEP_main_v44_8]
    have e : (step_main_v44_8 V : IVec S_ 32) (Shape.Idx.first h_S_)
      = IntOp.addi ((V (Proc.devRef .tc main_v44_8) : IVec S_ 32) (Shape.Idx.first h_S_))
        (if (res_main_while0b_v126 V : IVec S_ 1) (Shape.Idx.first h_S_) = 1#1 then 1#32 else 0#32) := rfl
    refine e.trans ?_
    rw [s.count]
    by_cases hn : t < steps a.mg
    · rw [if_pos ((some_at s).mpr ((nonempty_iff a.mg hself).mpr hn)), min_eq_left hn.le, min_eq_left hn]
      exact (BitVec.ofNat_add _ _).symm
    · rw [if_neg fun h => hn ((nonempty_iff a.mg hself).mp ((some_at s).mp h)), min_eq_right (by omega),
        min_eq_right (by omega)]
      exact BitVec.add_zero _

end Trip

/-- All trips. -/
theorem State.steps {a : Args} {V : Valuation τ sig (Elt Ideal)} (s : State a 0 V) (hself : ∀ p, a.mg p p) (t : ℕ) :
    State a t (STEP^[t] V) := by
  induction t with
  | zero => exact s
  | succ t ih => rw [Function.iterate_succ_apply']; exact ih.step hself

end Cert.Proof.RV
-- ==== Proof.RV.Index.lean ====
/-
The reference's index work, at an index: its sort of positions by a list of numbers, the repair of negative indices,
spreads along rows and columns, and gathers.
-/
module

public import proofs.«01_k».proof.Proof.RV.Loop
public import Idealize.ShloMosaic.Lib.SortFacts
public import Idealize.ShloMosaic.Lib.Routing.OpsSet
public import Idealize.ShloMosaic.Lib.Pipeline.Value

@[expose] public section

noncomputable section

namespace Cert.Proof.RV

open Cert.ReferenceIdeal Cert.ReferenceIdeal.Gen
open Cert.Proof.Words Cert.Proof.Spec Cert.Proof.Shapes Cert.Proof.Entry
open Idealize.ShloMosaic

/-! ## Sorting -/

/-- The comparison the sort uses is the order of the numbers. -/
theorem comparator_lt (u v : EReal) (b b' : BitVec 32) :
    (comparator_f32_i32_d0 (F := Ideal) (u, b) (v, b') == 1#1) = decide (u < v) := by
  have z : (FloatOps.ofBits .f32 0x00000000#32 : Ideal .f32) = (0 : EReal) := ofBits_zero
  have ne : ∀ x : EReal, ¬ Ideal.cmp .une x x = 1#1 := by
    intro x h
    unfold Ideal.cmp at h
    rw [ofBool_one] at h
    simp at h
  have canon : ∀ x w : EReal, Scalar.select (Ideal.cmp .une x x) w (Scalar.select (Ideal.cmp .oeq x (0 : EReal)) (0 : EReal) x) = x := by
    intro x w
    rw [scalar_sel, if_neg (ne x), scalar_sel]
    split
    · rename_i h; exact (cmp_oeq.mp h).symm
    · rfl
  have e : comparator_f32_i32_d0 (F := Ideal) (u, b) (v, b') = Ideal.cmp .olt u v := by
    show Ideal.cmp .olt (Scalar.select (Ideal.cmp .une u u) _ (Scalar.select (Ideal.cmp .oeq u (FloatOps.ofBits .f32 0x00000000#32 : Ideal .f32)) (FloatOps.ofBits .f32 0x00000000#32 : Ideal .f32) u))
      (Scalar.select (Ideal.cmp .une v v) _ (Scalar.select (Ideal.cmp .oeq v (FloatOps.ofBits .f32 0x00000000#32 : Ideal .f32)) (FloatOps.ofBits .f32 0x00000000#32 : Ideal .f32) v)) = _
    rw [z, canon, canon]
  rw [e, Bool.eq_iff_iff, beq_iff_eq, cmp_olt, decide_eq_true_iff]

/-- The second result of a sort along a list. -/
theorem sort2_at {n : ℕ} {α β : Type} (cmp : α × β → α × β → BitVec 1) (x : (⟨1, ![n]⟩ : Shape).Idx → α)
    (y : (⟨1, ![n]⟩ : Shape).Idx → β) (p : Fin n) :
    (Host.sort2 ⟨1, ![n]⟩ 0 cmp x y).2 (ix1 p)
      = y (ix1 (sortedFrom (fun k k' : Fin n => cmp (x (ix1 k), y (ix1 k)) (x (ix1 k'), y (ix1 k')) == 1#1) p)) := by
  have of : ∀ k : Fin n, (Shape.Idx.ofFin k : (⟨1, ![n]⟩ : Shape).Idx) = ix1 k := by
    intro k
    exact eq_ix1 _
  have al : ∀ k : Fin n, (ix1 p : (⟨1, ![n]⟩ : Shape).Idx).along (0 : Fin 1) k = ix1 k := fun k =>
    (Shape.Idx.along_rank1 _ k).trans (of k)
  unfold Host.sort2
  simp only [Nat.one_pos, dif_pos, Fin.zero_eta]
  refine (congrArg y (al _)).trans ?_
  refine congrArg (fun f : Fin n → Fin n → Bool => y (ix1 (sortedFrom f p))) (funext fun k => funext fun k' => ?_)
  exact congrArg₂ (fun i j => cmp (x i, y i) (x j, y j) == 1#1) (al k) (al k')

/-- The positions sorted by a list of numbers. -/
theorem order_at (x : FVec Ideal S20000 .f32) (p : Fin N) :
    (Host.sort2 S20000 0 comparator_f32_i32_d0 x (iotaInDim S20000 32 0)).2 (ix1 p)
      = BitVec.ofNat 32 (sortedFrom (fun i j : Fin N => decide ((x (ix1 i) : EReal) < x (ix1 j))) p).val := by
  refine (sort2_at comparator_f32_i32_d0 x (iotaInDim S20000 32 0) p).trans ?_
  refine congrArg (fun f : Fin N → Fin N → Bool => BitVec.ofNat 32 (sortedFrom f p).val) (funext fun i => funext fun j => ?_)
  exact comparator_lt _ _ _ _

/-! ## Spreads -/

/-- A list as a column. -/
theorem column_of {n : ℕ} {α : Type} (x : (⟨1, ![n]⟩ : Shape).Idx → α)
    (h : (⟨1, ![n]⟩ : Shape).BroadcastsInDim ⟨2, ![n, 1]⟩ ![0]) (p : Fin n) (q : Fin 1) :
    broadcastInDim ⟨2, ![n, 1]⟩ ![0] h x (ix2 p q) = x (ix1 p) := by
  refine broadcastInDim_apply _ h x _ (ix1 p) fun a => ?_
  fin_cases a
  show p.val = if n = 1 then 0 else p.val
  split <;> omega

/-- A list as a row. -/
theorem row_of {n : ℕ} {α : Type} (x : (⟨1, ![n]⟩ : Shape).Idx → α)
    (h : (⟨1, ![n]⟩ : Shape).BroadcastsInDim ⟨2, ![1, n]⟩ ![1]) (q : Fin 1) (p : Fin n) :
    broadcastInDim ⟨2, ![1, n]⟩ ![1] h x (ix2 q p) = x (ix1 p) := by
  refine broadcastInDim_apply _ h x _ (ix1 p) fun a => ?_
  fin_cases a
  show p.val = if n = 1 then 0 else p.val
  split <;> omega

/-- A column spread over `k` columns. -/
theorem spread_column {n k : ℕ} {α : Type} (x : (⟨2, ![n, 1]⟩ : Shape).Idx → α)
    (h : (⟨2, ![n, 1]⟩ : Shape).BroadcastsInDim ⟨2, ![n, k]⟩ ![0, 1]) (p : Fin n) (q : Fin k) :
    broadcastInDim ⟨2, ![n, k]⟩ ![0, 1] h x (ix2 p q) = x (ix2 p 0) := by
  refine broadcastInDim_apply _ h x _ (ix2 p 0) fun a => ?_
  fin_cases a
  · show p.val = if n = 1 then 0 else p.val
    split <;> omega
  · show 0 = if 1 = 1 then 0 else q.val
    exact (if_pos rfl).symm

/-- A row spread over `n` rows. -/
theorem spread_row {n k : ℕ} {α : Type} (x : (⟨2, ![1, k]⟩ : Shape).Idx → α)
    (h : (⟨2, ![1, k]⟩ : Shape).BroadcastsInDim ⟨2, ![n, k]⟩ ![0, 1]) (p : Fin n) (q : Fin k) :
    broadcastInDim ⟨2, ![n, k]⟩ ![0, 1] h x (ix2 p q) = x (ix2 0 q) := by
  refine broadcastInDim_apply _ h x _ (ix2 0 q) fun a => ?_
  fin_cases a
  · show 0 = if 1 = 1 then 0 else p.val
    exact (if_pos rfl).symm
  · show q.val = if k = 1 then 0 else q.val
    split <;> omega

/-! ## Indices -/

/-- The repair of negative indices leaves a position alone. -/
theorem fix_at {n : ℕ} (o : IVec ⟨1, ![n]⟩ 32) (hb : S_.BroadcastsInDim ⟨1, ![n]⟩ ![])
    (hc : (⟨1, ![n]⟩ : Shape).BroadcastsInDim ⟨2, ![n, 1]⟩ ![0]) (p : Fin n) (q : Fin 1) (k : ℕ) (hk : k < 2 ^ 31)
    (h : o (ix1 p) = BitVec.ofNat 32 k) :
    broadcastInDim ⟨2, ![n, 1]⟩ ![0] hc (select (cmpi .slt o (broadcastInDim ⟨1, ![n]⟩ ![] hb (constantI S_ 32 0#32)))
      (addi o (broadcastInDim ⟨1, ![n]⟩ ![] hb (constantI S_ 32 20000#32))) o) (ix2 p q) = BitVec.ofNat 32 k := by
  rw [column_of, sel, if_neg, h]
  intro e
  have e' := cmpi_slt_one.mp e
  rw [h, toInt_ofNat hk, spread_at] at e'
  have h0 : ((constantI S_ 32 0#32 : IVec S_ 32) (Shape.Idx.first h_S_)).toInt = 0 := rfl
  omega

end Cert.Proof.RV
-- ==== Proof.RV.Pre.lean ====
/-
What the reference holds when its loop starts: the shifted boxes, scores and labels in the order of the scores, nothing
assigned, and no cluster counted.
-/
module

public import proofs.«01_k».proof.Proof.RV.Index
public import Idealize.ShloMosaic.Lib.StableHlo.RunRead
public import Idealize.ShloMosaic.Lib.Tactic
public import Idealize.ShloMosaic.Lib.Claim

@[expose] public section

noncomputable section

namespace Cert.Proof.RV

open Cert.ReferenceIdeal Cert.ReferenceIdeal.Gen Cert.ReferenceIdeal.Value
open Cert.Proof.Words Cert.Proof.Spec Cert.Proof.Greedy Cert.Proof.Sorted Cert.Proof.Shapes Cert.Proof.Entry
open Idealize.ShloMosaic Idealize.ShloMosaic.TcCoe Idealize.ShloMosaic.Tactic Idealize.ShloMosaic.StableHlo

/-! ## The arrays -/

/-- The repaired indices, as a column. -/
def wrap (o : IVec S20000 32) : IVec S20000x1 32 :=
  broadcastInDim S20000x1 ![0] bcast_S20000_S20000x1_0
    (select (cmpi .slt o (broadcastInDim S20000 ![] bcast_S_S20000 (constantI S_ 32 0#32)))
      (addi o (broadcastInDim S20000 ![] bcast_S_S20000 (constantI S_ 32 20000#32))) o)

/-- The largest coordinate plus one. -/
def shiftArr (X : FVec Ideal S20000x4 .f32) : FVec Ideal S_ .f32 :=
  addf (Host.reduce FloatOps.maximumf X (constant S_ .f32 0xFF800000#32) reducesTo_S20000x4_S_d0_1 h_S_)
    (constant S_ .f32 0x3F800000#32)

/-- The boxes shifted by their labels. -/
def coArr (X : FVec Ideal S20000x4 .f32) (L : IVec S20000 32) : FVec Ideal S20000x4 .f32 :=
  addf X (broadcastInDim S20000x4 ![0, 1] bcast_S20000x1_S20000x4_0_1
    (mulf (broadcastInDim S20000x1 ![0] bcast_S20000_S20000x1_0 (sitofp .f32 L : FVec Ideal S20000 .f32))
      (broadcastInDim S20000x1 ![] bcast_S_S20000x1 (shiftArr X))))

/-- The order of the scores. -/
def ordArr (S : FVec Ideal S20000 .f32) : IVec S20000 32 :=
  (Host.sort2 S20000 0 comparator_f32_i32_d0 (Host.negf S) (iotaInDim S20000 32 0)).2

/-- The shifted boxes, the scores and the labels in that order, and a column of the boxes. -/
def coSort (X : FVec Ideal S20000x4 .f32) (S : FVec Ideal S20000 .f32) (L : IVec S20000 32) : FVec Ideal S20000x4 .f32 :=
  Host.gather gather_S20000x4_S20000x1_S20000x4_1_0_n_n_0_1_14 (coArr X L) (wrap (ordArr S))
def scSort (S : FVec Ideal S20000 .f32) : FVec Ideal S20000 .f32 :=
  Host.gather gather_S20000_S20000x1_S20000_n_0_n_n_0_1_1 S (wrap (ordArr S))
def labSort (S : FVec Ideal S20000 .f32) (L : IVec S20000 32) : FVec Ideal S20000 .f32 :=
  Host.gather gather_S20000_S20000x1_S20000_n_0_n_n_0_1_1 (sitofp .f32 L : FVec Ideal S20000 .f32) (wrap (ordArr S))
def col0 (B : FVec Ideal S20000x4 .f32) : FVec Ideal S20000 .f32 :=
  shapeCast S20000 (extractStridedSlice S20000x1 ![0, 0] B slices_S20000x4_S20000x1_0_0) shapeCasts_S20000x1_S20000
def col1 (B : FVec Ideal S20000x4 .f32) : FVec Ideal S20000 .f32 :=
  shapeCast S20000 (extractStridedSlice S20000x1 ![0, 1] B slices_S20000x4_S20000x1_0_1) shapeCasts_S20000x1_S20000
def col2 (B : FVec Ideal S20000x4 .f32) : FVec Ideal S20000 .f32 :=
  shapeCast S20000 (extractStridedSlice S20000x1 ![0, 2] B slices_S20000x4_S20000x1_0_2) shapeCasts_S20000x1_S20000
def col3 (B : FVec Ideal S20000x4 .f32) : FVec Ideal S20000 .f32 :=
  shapeCast S20000 (extractStridedSlice S20000x1 ![0, 3] B slices_S20000x4_S20000x1_0_3) shapeCasts_S20000x1_S20000

/-! ## The arrays at an index -/

section At

variable (X : FVec Ideal S20000x4 .f32) (S : FVec Ideal S20000 .f32) (L : IVec S20000 32)

theorem sum_at {s : Shape} {x y : FVec Ideal s .f32} {j : s.Idx} {u v : EReal} (hx : x j = u) (hy : y j = v) :
    (addf x y j : EReal) = u + v := by subst hx hy; rfl
theorem diff_at {s : Shape} {x y : FVec Ideal s .f32} {j : s.Idx} {u v : EReal} (hx : x j = u) (hy : y j = v) :
    (subf x y j : EReal) = u - v := by subst hx hy; rfl
theorem prod_at {s : Shape} {x y : FVec Ideal s .f32} {j : s.Idx} {u v : EReal} (hx : x j = u) (hy : y j = v) :
    (mulf x y j : EReal) = u * v := by subst hx hy; rfl

theorem shiftArr_at (j : S_.Idx) : (shiftArr X j : EReal) = (argsOf X S L).shift := by
  unfold shiftArr
  exact sum_at (max_all X _ neg_first _ _ j) Ideal.ofBits_one_f32

theorem coArr_at (i : Fin N) (d : Fin 4) : (coArr X L (ix2 i d) : EReal) = (argsOf X S L).co d i := by
  unfold coArr
  refine sum_at rfl ?_
  rw [spread_column]
  refine prod_at ?_ ((spread_at _ _ _ _).trans (shiftArr_at X S L _))
  rw [column_of]
  rfl

theorem ordArr_at (p : Fin N) : ordArr S (ix1 p) = BitVec.ofNat 32 ((argsOf X S L).sigma p).val :=
  order_at (Host.negf S) p

theorem wrap_at (p : Fin N) (q : Fin 1) : wrap (ordArr S) (ix2 p q) = BitVec.ofNat 32 ((argsOf X S L).sigma p).val := by
  have h : ((argsOf X S L).sigma p).val < 20000 := ((argsOf X S L).sigma p).isLt
  exact fix_at _ _ _ p q _ (by omega) (ordArr_at X S L p)

theorem coSort_at (p : Fin N) (d : Fin 4) : (coSort X S L (ix2 p d) : EReal) = (argsOf X S L).co d ((argsOf X S L).sigma p) :=
  (Routing.gather_row gather_S20000x4_S20000x1_S20000x4_1_0_n_n_0_1_14 rfl rfl rfl rfl rfl (coArr X L) (wrap (ordArr S)) p d
    ((argsOf X S L).sigma p) (wrap_at X S L p 0) (by norm_num)).trans (coArr_at X S L _ d)

theorem scSort_at (p : Fin N) : (scSort S (ix1 p) : EReal) = (argsOf X S L).score ((argsOf X S L).sigma p) :=
  Routing.gather_take1 gather_S20000_S20000x1_S20000_n_0_n_n_0_1_1 rfl rfl rfl rfl S (wrap (ordArr S)) p
    ((argsOf X S L).sigma p) (wrap_at X S L p 0) (by norm_num)

theorem labSort_at (p : Fin N) : (labSort S L (ix1 p) : EReal) = (argsOf X S L).lab ((argsOf X S L).sigma p) :=
  Routing.gather_take1 gather_S20000_S20000x1_S20000_n_0_n_n_0_1_1 rfl rfl rfl rfl (sitofp .f32 L : FVec Ideal S20000 .f32)
    (wrap (ordArr S)) p ((argsOf X S L).sigma p) (wrap_at X S L p 0) (by norm_num)

theorem col0_at (p : Fin N) : (col0 (coSort X S L) (ix1 p) : EReal) = (argsOf X S L).co 0 ((argsOf X S L).sigma p) :=
  (column_at 0 _ _ _ p).trans (coSort_at X S L p 0)
theorem col1_at (p : Fin N) : (col1 (coSort X S L) (ix1 p) : EReal) = (argsOf X S L).co 1 ((argsOf X S L).sigma p) :=
  (column_at 1 _ _ _ p).trans (coSort_at X S L p 1)
theorem col2_at (p : Fin N) : (col2 (coSort X S L) (ix1 p) : EReal) = (argsOf X S L).co 2 ((argsOf X S L).sigma p) :=
  (column_at 2 _ _ _ p).trans (coSort_at X S L p 2)
theorem col3_at (p : Fin N) : (col3 (coSort X S L) (ix1 p) : EReal) = (argsOf X S L).co 3 ((argsOf X S L).sigma p) :=
  (column_at 3 _ _ _ p).trans (coSort_at X S L p 3)

end At

/-! ## The buffers -/

variable (V0 : Valuation τ sig (Elt Ideal))

/-- The contents after the lines before the loop. -/
abbrev before : Valuation τ sig (Elt Ideal) := after hostOps0_2 (after hostOps0_1 (after hostOps0 V0))

theorem pre_v2 : before V0 (Proc.devRef .tc main_v2) = shiftArr (V0 (Proc.devRef .tc main_arg0)) := by
  unfold_abbrev_sides
  after_reads_simp
  rfl

theorem pre_v16 : before V0 (Proc.devRef .tc main_v16)
    = coSort (V0 (Proc.devRef .tc main_arg0)) (V0 (Proc.devRef .tc main_arg1)) (V0 (Proc.devRef .tc main_arg2)) := by
  unfold_abbrev_sides
  after_reads_simp
  rfl

theorem pre_v23 : before V0 (Proc.devRef .tc main_v23)
    = scSort (V0 (Proc.devRef .tc main_arg1)) := by
  unfold_abbrev_sides
  after_reads_simp
  rfl

theorem pre_v30 : before V0 (Proc.devRef .tc main_v30)
    = labSort (V0 (Proc.devRef .tc main_arg1)) (V0 (Proc.devRef .tc main_arg2)) := by
  unfold_abbrev_sides
  after_reads_simp
  rfl

theorem pre_v44_0 : before V0 (Proc.devRef .tc main_v44_0)
    = col0 (coSort (V0 (Proc.devRef .tc main_arg0)) (V0 (Proc.devRef .tc main_arg1)) (V0 (Proc.devRef .tc main_arg2))) := by
  unfold_abbrev_sides
  after_reads_simp
  rfl

theorem pre_v44_1 : before V0 (Proc.devRef .tc main_v44_1)
    = col1 (coSort (V0 (Proc.devRef .tc main_arg0)) (V0 (Proc.devRef .tc main_arg1)) (V0 (Proc.devRef .tc main_arg2))) := by
  unfold_abbrev_sides
  after_reads_simp
  rfl

theorem pre_v44_2 : before V0 (Proc.devRef .tc main_v44_2)
    = col2 (coSort (V0 (Proc.devRef .tc main_arg0)) (V0 (Proc.devRef .tc main_arg1)) (V0 (Proc.devRef .tc main_arg2))) := by
  unfold_abbrev_sides
  after_reads_simp
  rfl

theorem pre_v44_3 : before V0 (Proc.devRef .tc main_v44_3)
    = col3 (coSort (V0 (Proc.devRef .tc main_arg0)) (V0 (Proc.devRef .tc main_arg1)) (V0 (Proc.devRef .tc main_arg2))) := by
  unfold_abbrev_sides
  after_reads_simp
  rfl

theorem pre_v44_4 : before V0 (Proc.devRef .tc main_v44_4)
    = (mulf (subf (col2 (coSort (V0 (Proc.devRef .tc main_arg0)) (V0 (Proc.devRef .tc main_arg1)) (V0 (Proc.devRef .tc main_arg2)))) (col0 (coSort (V0 (Proc.devRef .tc main_arg0)) (V0 (Proc.devRef .tc main_arg1)) (V0 (Proc.devRef .tc main_arg2))))) (subf (col3 (coSort (V0 (Proc.devRef .tc main_arg0)) (V0 (Proc.devRef .tc main_arg1)) (V0 (Proc.devRef .tc main_arg2)))) (col1 (coSort (V0 (Proc.devRef .tc main_arg0)) (V0 (Proc.devRef .tc main_arg1)) (V0 (Proc.devRef .tc main_arg2))))) : FVec Ideal S20000 .f32) := by
  unfold_abbrev_sides
  after_reads_simp
  rfl

theorem pre_v44_6 : before V0 (Proc.devRef .tc main_v44_6)
    = (broadcastInDim S20000 ![] bcast_S_S20000 (constantI S_ 1 0#1) : IVec S20000 1) := by
  unfold_abbrev_sides
  after_reads_simp
  rfl

theorem pre_v44_8 : before V0 (Proc.devRef .tc main_v44_8)
    = (constantI S_ 32 0#32 : IVec S_ 32) := by
  unfold_abbrev_sides
  after_reads_simp
  rfl

/-- The arguments as the reference holds them. -/
def argsAt : Args :=
  argsOf (V0 (Proc.devRef .tc main_arg0)) (V0 (Proc.devRef .tc main_arg1)) (V0 (Proc.devRef .tc main_arg2))

/-- The loop's first state. -/
theorem start : State (argsAt V0) 0 (before V0) := by
  refine ⟨?_, ?_, ?_, ?_, ?_, ?_, ?_, ?_⟩
  · intro p; rw [pre_v44_0]; exact col0_at _ _ _ p
  · intro p; rw [pre_v44_1]; exact col1_at _ _ _ p
  · intro p; rw [pre_v44_2]; exact col2_at _ _ _ p
  · intro p; rw [pre_v44_3]; exact col3_at _ _ _ p
  · intro p; rw [pre_v44_4]
    exact prod_at (diff_at (col2_at _ _ _ p) (col0_at _ _ _ p)) (diff_at (col3_at _ _ _ p) (col1_at _ _ _ p))
  · intro p; rw [pre_v44_6, spread_at]
    constructor
    · intro h; exact absurd (show (0#1 : BitVec 1) = 1#1 from h) (by decide)
    · intro h; exact absurd (Finset.mem_univ p) h
  · intro p j hj; omega
  · rw [pre_v44_8, Nat.zero_min]; rfl

end Cert.Proof.RV
-- ==== Proof.RV.Sums.lean ====
/-
Sums and maxima over clusters as the reference forms them: an accumulating scatter by cluster number, and a maximum along
the rows of a masked table.
-/
module

public import proofs.«01_k».proof.Proof.RV.Index

@[expose] public section

noncomputable section

namespace Cert.Proof.RV

open Cert.ReferenceIdeal Cert.ReferenceIdeal.Gen
open Cert.Proof.Words Cert.Proof.Spec Cert.Proof.Shapes Cert.Proof.Entry
open Idealize.ShloMosaic

/-- A maximum along the rows of a table. -/
theorem row_max {n k : ℕ} (x : FVec Ideal ⟨2, ![n, k]⟩ .f32) (v : FVec Ideal S_ .f32)
    (hv : v (Shape.Idx.first h_S_) = (⊥ : EReal)) (h' : (⟨2, ![n, k]⟩ : Shape).ReducesTo [1] ⟨1, ![n]⟩)
    (h : (⟨2, ![n, k]⟩ : Shape).Reduces [1] ⟨1, ![n]⟩) (p : Fin n) :
    Host.reduce FloatOps.maximumf x v h' h_S_ (ix1 p) = (Finset.univ.sup fun q : Fin k => (x (ix2 p q) : EReal)) := by
  refine (Host.reduce_eq_fold_single (α := EReal) max x v h' h h_S_ (ix1 p)).trans ?_
  rw [hv]
  have hf : (x ∘ h.lift (ix1 p)) = fun q : Fin k => x (ix2 p q) := funext fun q => congrArg x (by
    funext c; apply Fin.ext
    fin_cases c <;> rfl)
  rw [hf]
  rfl

/-- Where an update row lands. -/
theorem lands_row {N n C : ℕ} (wf : ScatterDims.WF ⟨2, ![N, C]⟩ ⟨2, ![n, 1]⟩ ⟨2, ![n, C]⟩ [1] [0] [0] 1)
    (idx : IVec ⟨2, ![n, 1]⟩ 32) (p : Fin n) (c e : Fin C) (k : Fin N) :
    (⟨[1], [0], [0], 1, wf⟩ : ScatterDims ⟨2, ![N, C]⟩ ⟨2, ![n, 1]⟩ ⟨2, ![n, C]⟩).resultIdx? (ix2 p c) idx = some (ix2 k e)
      ↔ (idx (ix2 p 0)).toInt = k.val ∧ c = e := by
  refine (Routing.resultIdx?_ix2 _ _ _ _ _).trans ?_
  have w0 : (⟨[1], [0], [0], 1, wf⟩ : ScatterDims ⟨2, ![N, C]⟩ ⟨2, ![n, 1]⟩ ⟨2, ![n, C]⟩).window (ix2 p c) 0 = 0 := rfl
  have w1 : (⟨[1], [0], [0], 1, wf⟩ : ScatterDims ⟨2, ![N, C]⟩ ⟨2, ![n, 1]⟩ ⟨2, ![n, C]⟩).window (ix2 p c) 1 = c.val := rfl
  have s1 : (⟨[1], [0], [0], 1, wf⟩ : ScatterDims ⟨2, ![N, C]⟩ ⟨2, ![n, 1]⟩ ⟨2, ![n, C]⟩).start (ix2 p c) idx 1 = 0 := rfl
  have s0 : (⟨[1], [0], [0], 1, wf⟩ : ScatterDims ⟨2, ![N, C]⟩ ⟨2, ![n, 1]⟩ ⟨2, ![n, C]⟩).start (ix2 p c) idx 0
      = (idx (ix2 p 0)).toInt := by
    refine congrArg (fun i => (idx i).toInt) ?_
    funext b; apply Fin.ext
    fin_cases b <;> rfl
  rw [w0, w1, s1, s0, Fin.ext_iff]
  constructor
  · rintro ⟨h1, h2⟩; exact ⟨by simpa using h1, by simpa using h2⟩
  · rintro ⟨h1, h2⟩; exact ⟨by simpa using h1, by simpa using h2⟩

/-- Where an update entry lands. -/
theorem lands_entry {N n : ℕ} (wf : ScatterDims.WF ⟨1, ![N]⟩ ⟨2, ![n, 1]⟩ ⟨1, ![n]⟩ [] [0] [0] 1)
    (idx : IVec ⟨2, ![n, 1]⟩ 32) (p : Fin n) (k : Fin N) :
    (⟨[], [0], [0], 1, wf⟩ : ScatterDims ⟨1, ![N]⟩ ⟨2, ![n, 1]⟩ ⟨1, ![n]⟩).resultIdx? (ix1 p) idx = some (ix1 k)
      ↔ (idx (ix2 p 0)).toInt = k.val := by
  refine (Routing.resultIdx?_ix1 _ _ _ _).trans ?_
  have w0 : (⟨[], [0], [0], 1, wf⟩ : ScatterDims ⟨1, ![N]⟩ ⟨2, ![n, 1]⟩ ⟨1, ![n]⟩).window (ix1 p) 0 = 0 := rfl
  have s0 : (⟨[], [0], [0], 1, wf⟩ : ScatterDims ⟨1, ![N]⟩ ⟨2, ![n, 1]⟩ ⟨1, ![n]⟩).start (ix1 p) idx 0
      = (idx (ix2 p 0)).toInt := by
    refine congrArg (fun i => (idx i).toInt) ?_
    funext b; apply Fin.ext
    fin_cases b <;> rfl
  rw [w0, s0]
  simp

open Classical in
/-- A scatter of rows adds to row `k` the update rows whose index is `k`. -/
theorem scatter_rows {N n C : ℕ} (wf : ScatterDims.WF ⟨2, ![N, C]⟩ ⟨2, ![n, 1]⟩ ⟨2, ![n, C]⟩ [1] [0] [0] 1)
    (x : FVec Ideal ⟨2, ![N, C]⟩ .f32) (idx : IVec ⟨2, ![n, 1]⟩ 32) (u : FVec Ideal ⟨2, ![n, C]⟩ .f32) (k : Fin N) (e : Fin C) :
    (Host.scatterAdd (⟨[1], [0], [0], 1, wf⟩ : ScatterDims ⟨2, ![N, C]⟩ ⟨2, ![n, 1]⟩ ⟨2, ![n, C]⟩) x idx u (ix2 k e) : EReal)
      = (x (ix2 k e) : EReal) + ∑ p ∈ Finset.univ.filter (fun p : Fin n => (idx (ix2 p 0)).toInt = k.val), (u (ix2 p e) : EReal) := by
  show (x (ix2 k e) : EReal) + ∑ j ∈ Finset.univ.filter _, (u j : EReal) = _
  congr 1
  symm
  refine Finset.sum_bij (fun p _ => ix2 p e) ?_ ?_ ?_ ?_
  · intro p hp
    rw [Finset.mem_filter] at hp ⊢
    exact ⟨Finset.mem_univ _, (lands_row wf idx p e e k).mpr ⟨hp.2, rfl⟩⟩
  · intro p _ q _ h
    exact congrFun h 0
  · intro j hj
    rw [Finset.mem_filter] at hj
    obtain ⟨p, c, rfl⟩ : ∃ (p : Fin n) (c : Fin C), j = ix2 p c := ⟨j 0, j 1, eq_ix2 j⟩
    obtain ⟨h1, rfl⟩ := (lands_row wf idx p c e k).mp hj.2
    exact ⟨p, Finset.mem_filter.mpr ⟨Finset.mem_univ _, h1⟩, rfl⟩
  · intro p _; rfl

open Classical in
/-- A scatter of entries adds to entry `k` the update entries whose index is `k`. -/
theorem scatter_entries {N n : ℕ} (wf : ScatterDims.WF ⟨1, ![N]⟩ ⟨2, ![n, 1]⟩ ⟨1, ![n]⟩ [] [0] [0] 1)
    (x : FVec Ideal ⟨1, ![N]⟩ .f32) (idx : IVec ⟨2, ![n, 1]⟩ 32) (u : FVec Ideal ⟨1, ![n]⟩ .f32) (k : Fin N) :
    (Host.scatterAdd (⟨[], [0], [0], 1, wf⟩ : ScatterDims ⟨1, ![N]⟩ ⟨2, ![n, 1]⟩ ⟨1, ![n]⟩) x idx u (ix1 k) : EReal)
      = (x (ix1 k) : EReal) + ∑ p ∈ Finset.univ.filter (fun p : Fin n => (idx (ix2 p 0)).toInt = k.val), (u (ix1 p) : EReal) := by
  show (x (ix1 k) : EReal) + ∑ j ∈ Finset.univ.filter _, (u j : EReal) = _
  congr 1
  symm
  refine Finset.sum_bij (fun p _ => ix1 p) ?_ ?_ ?_ ?_
  · intro p hp
    rw [Finset.mem_filter] at hp ⊢
    exact ⟨Finset.mem_univ _, (lands_entry wf idx p k).mpr hp.2⟩
  · intro p _ q _ h
    exact congrFun h 0
  · intro j hj
    rw [Finset.mem_filter] at hj
    obtain ⟨p, rfl⟩ : ∃ p : Fin n, j = ix1 p := ⟨j 0, eq_ix1 j⟩
    exact ⟨p, Finset.mem_filter.mpr ⟨Finset.mem_univ _, (lands_entry wf idx p k).mp hj.2⟩, rfl⟩
  · intro p _; rfl

end Cert.Proof.RV
-- ==== Proof.RV.Post.lean ====
/-
What the reference makes of its clusters: sums, maxima and validity by cluster number, the order of the cluster scores
(which is the order of the numbers), and the first hundred rows.
-/
module

public import proofs.«01_k».proof.Proof.RV.Pre
public import proofs.«01_k».proof.Proof.RV.Sums
public import proofs.«01_k».proof.Proof.Math.Out

@[expose] public section

noncomputable section

namespace Cert.Proof.RV

open Cert.ReferenceIdeal Cert.ReferenceIdeal.Gen
open Cert.Proof.Words Cert.Proof.Spec Cert.Proof.Greedy Cert.Proof.Sorted Cert.Proof.Shapes Cert.Proof.Entry
open Idealize.ShloMosaic

/-! ## The arrays -/

section Arrays

variable (cid : IVec S20000 32) (K : IVec S_ 32) (B : FVec Ideal S20000x4 .f32) (sc lb : FVec Ideal S20000 .f32)
  (sh : FVec Ideal S_ .f32)

/-- Which cluster numbers are in use. -/
def valid : IVec S20000 1 :=
  cmpi .slt (iotaInDim S20000 32 0) (broadcastInDim S20000 ![] bcast_S_S20000 K)

/-- Row `k`, column `p`: position `p` is in cluster `k`. -/
def own : IVec S20000x20000 1 :=
  cmpi .eq (broadcastInDim S20000x20000 ![0, 1] bcast_S1x20000_S20000x20000_0_1
      (broadcastInDim S1x20000 ![1] bcast_S20000_S1x20000_1 cid))
    (broadcastInDim S20000x20000 ![0, 1] bcast_S20000x1_S20000x20000_0_1
      (broadcastInDim S20000x1 ![0] bcast_S20000_S20000x1_0 (iotaInDim S20000 32 0)))

/-- The largest of a list's entries over each cluster. -/
def best (x : FVec Ideal S20000 .f32) : FVec Ideal S20000 .f32 :=
  Host.reduce FloatOps.maximumf
    (select (own cid) (broadcastInDim S20000x20000 ![0, 1] bcast_S1x20000_S20000x20000_0_1
        (broadcastInDim S1x20000 ![1] bcast_S20000_S1x20000_1 x))
      (broadcastInDim S20000x20000 ![] bcast_S_S20000x20000 (id (constant S_ .f32 0xFF800000#32))))
    (constant S_ .f32 0xFF800000#32) reducesTo_S20000x20000_S20000_d1 h_S_

/-- A list where the cluster numbers are in use, and a constant elsewhere. -/
def inUse (x : FVec Ideal S20000 .f32) (w : BitVec 32) : FVec Ideal S20000 .f32 :=
  select (valid K) x (broadcastInDim S20000 ![] bcast_S_S20000 (id (constant S_ .f32 w)))

/-- The score-weighted boxes summed over each cluster. -/
def sumBox : FVec Ideal S20000x4 .f32 :=
  Host.scatterAdd scatter_S20000x4_S20000x1_S20000x4_1_0_0_1
    (broadcastInDim S20000x4 ![] bcast_S_S20000x4 (constant S_ .f32 0x00000000#32))
    (broadcastInDim S20000x1 ![0] bcast_S20000_S20000x1_0 cid)
    (mulf B (broadcastInDim S20000x4 ![0, 1] bcast_S20000x1_S20000x4_0_1
      (broadcastInDim S20000x1 ![0] bcast_S20000_S20000x1_0 sc)))

/-- The scores summed over each cluster. -/
def sumSc : FVec Ideal S20000 .f32 :=
  Host.scatterAdd scatter_S20000_S20000x1_S20000_n_0_0_1
    (broadcastInDim S20000 ![] bcast_S_S20000 (constant S_ .f32 0x00000000#32))
    (broadcastInDim S20000x1 ![0] bcast_S20000_S20000x1_0 cid) sc

/-- The weighted means. -/
def means : FVec Ideal S20000x4 .f32 :=
  Host.divf (sumBox cid B sc) (broadcastInDim S20000x4 ![0, 1] bcast_S20000x1_S20000x4_0_1
    (broadcastInDim S20000x1 ![0] bcast_S20000_S20000x1_0 (inUse K (sumSc cid sc) 0x3F800000#32)))

/-- The first hundred cluster numbers in the order of the cluster scores, and their repair. -/
def ranks (v : FVec Ideal S20000 .f32) : IVec S100 32 :=
  extractStridedSlice S100 ![0] (Host.sort2 S20000 0 comparator_f32_i32_d0 (Host.negf v) (iotaInDim S20000 32 0)).2
    slices_S20000_S100_0
def rows (o : IVec S100 32) : IVec S100x1 32 :=
  broadcastInDim S100x1 ![0] bcast_S100_S100x1_0
    (select (cmpi .slt o (broadcastInDim S100 ![] bcast_S_S100 (constantI S_ 32 0#32)))
      (addi o (broadcastInDim S100 ![] bcast_S_S100 (constantI S_ 32 20000#32))) o)

/-- A list and the validity at those rows. -/
def at100 (x : FVec Ideal S20000 .f32) (o : IVec S100x1 32) : FVec Ideal S100 .f32 :=
  Host.gather gather_S20000_S100x1_S100_n_0_n_n_0_1_1 x o
def valid100 (o : IVec S100x1 32) : IVec S100 1 := Host.gather gather_S20000_S100x1_S100_n_0_n_n_0_1_1 (valid K) o

/-- The cluster scores and labels. -/
def clScore : FVec Ideal S20000 .f32 := inUse K (best cid sc) 0xBF800000#32
def clLab : FVec Ideal S20000 .f32 := inUse K (best cid lb) 0x00000000#32

/-- The three results. -/
def resBox : FVec Ideal S100x4 .f32 :=
  select (broadcastInDim S100x4 ![0, 1] bcast_S100x1_S100x4_0_1
      (broadcastInDim S100x1 ![0] bcast_S100_S100x1_0 (valid100 K (rows (ranks (clScore cid K sc))))))
    (subf (Host.gather gather_S20000x4_S100x1_S100x4_1_0_n_n_0_1_14 (means cid K B sc) (rows (ranks (clScore cid K sc))))
      (broadcastInDim S100x4 ![0, 1] bcast_S100x1_S100x4_0_1
        (mulf (broadcastInDim S100x1 ![0] bcast_S100_S100x1_0 (at100 (clLab cid K lb) (rows (ranks (clScore cid K sc)))))
          (broadcastInDim S100x1 ![] bcast_S_S100x1 sh))))
    (broadcastInDim S100x4 ![] bcast_S_S100x4 (id (constant S_ .f32 0x00000000#32)))
def resScore : FVec Ideal S100 .f32 :=
  select (valid100 K (rows (ranks (clScore cid K sc)))) (at100 (clScore cid K sc) (rows (ranks (clScore cid K sc))))
    (broadcastInDim S100 ![] bcast_S_S100 (id (constant S_ .f32 0x00000000#32)))
def resLab : FVec Ideal S100 .f32 :=
  select (valid100 K (rows (ranks (clScore cid K sc)))) (at100 (clLab cid K lb) (rows (ranks (clScore cid K sc))))
    (broadcastInDim S100 ![] bcast_S_S100 (id (constant S_ .f32 0xBF800000#32)))

end Arrays

/-- What the lines after the loop start from. -/
structure Ends (a : Args) (cid : IVec S20000 32) (K : IVec S_ 32) (B : FVec Ideal S20000x4 .f32)
    (sc lb : FVec Ideal S20000 .f32) (sh : FVec Ideal S_ .f32) : Prop where
  num : ∀ p k : Fin N, cid (ix1 p) = BitVec.ofNat 32 k.val ↔ p ∈ a.cluster k.val
  count : K (Shape.Idx.first h_S_) = BitVec.ofNat 32 a.clusters
  box : ∀ (p : Fin N) (d : Fin 4), B (ix2 p d) = a.co d (a.sigma p)
  score : ∀ p : Fin N, sc (ix1 p) = a.score (a.sigma p)
  lab : ∀ p : Fin N, lb (ix1 p) = a.lab (a.sigma p)
  shift : sh (Shape.Idx.first h_S_) = a.shift

/-- A row of the first hundred as a cluster number. -/
def up (l : Fin 100) : Fin N := ⟨l.val, by have := l.isLt; show l.val < 20000; omega⟩

theorem slice_at {α : Type} (x : S20000.Idx → α) (h : S20000.Slices ![0] S100) (l : Fin 100) :
    extractStridedSlice S100 ![0] x h (ix1 l) = x (ix1 (up l)) := by
  refine congrArg x (funext fun b => Fin.ext ?_)
  fin_cases b
  show 0 + l.val = l.val; omega

/-- A list of falling numbers is in order already. -/
theorem order_mono (x : FVec Ideal S20000 .f32) (h : ∀ i j : Fin N, i ≤ j → (x (ix1 j) : EReal) ≤ x (ix1 i)) (p : Fin N) :
    (Host.sort2 S20000 0 comparator_f32_i32_d0 (Host.negf x) (iotaInDim S20000 32 0)).2 (ix1 p) = BitVec.ofNat 32 p.val := by
  refine (order_at _ _).trans (congrArg (fun q : Fin N => BitVec.ofNat 32 q.val) ?_)
  refine sortedFrom_of_mono (fun i : Fin N => -(x (ix1 i) : EReal)) _ (fun i j => decide_eq_true_iff) (fun i j hij => ?_) p
  exact EReal.neg_le_neg_iff.mpr (h i j hij)

theorem sup_mask {ι : Type} [Fintype ι] (A : Finset ι) (f g : ι → EReal) (h1 : ∀ i ∈ A, g i = f i) (h0 : ∀ i ∉ A, g i = ⊥) :
    Finset.univ.sup g = A.sup f := by
  apply le_antisymm
  · refine Finset.sup_le fun i _ => ?_
    by_cases h : i ∈ A
    · rw [h1 i h]; exact Finset.le_sup (f := f) h
    · rw [h0 i h]; exact bot_le
  · refine Finset.sup_le fun i h => ?_
    rw [← h1 i h]; exact Finset.le_sup (f := g) (Finset.mem_univ i)

theorem word_at {t : Shape} (w : BitVec 32) (d : Fin S_.rank → Fin t.rank) (h : S_.BroadcastsInDim t d) (j : t.Idx) :
    (broadcastInDim t d h (id (constant S_ .f32 w : FVec Ideal S_ .f32)) j : Ideal .f32) = Ideal.ofBits .f32 w :=
  (spread_at _ d h j).trans rfl

theorem quot_at {s : Shape} {x y : FVec Ideal s .f32} {j : s.Idx} {u v : EReal} (hx : x j = u) (hy : y j = v) :
    (Host.divf x y j : EReal) = Ideal.div u v := by subst hx hy; rfl

section Post

variable {a : Args} {cid : IVec S20000 32} {K : IVec S_ 32} {B : FVec Ideal S20000x4 .f32}
  {sc lb : FVec Ideal S20000 .f32} {sh : FVec Ideal S_ .f32} (e : Ends a cid K B sc lb sh) (g : a.Good)
include e g

theorem clusters_le : a.clusters ≤ 20000 := steps_le a.mg (Args.mg_self g)

theorem valid_at (k : Fin N) : valid K (ix1 k) = 1#1 ↔ k.val < a.clusters := by
  have hk : k.val < 20000 := k.isLt
  have hc := clusters_le e g
  unfold valid
  refine cmpi_slt_one.trans ?_
  rw [spread_at, e.count, toInt_ofNat (by omega)]
  have i : ((iotaInDim S20000 32 0 : IVec S20000 32) (ix1 k)).toInt = k.val := toInt_ofNat (n := k.val) (by omega)
  rw [i]
  omega

theorem own_at (k p : Fin N) : own cid (ix2 k p) = 1#1 ↔ p ∈ a.cluster k.val := by
  unfold own
  refine cmpi_eq_one.trans ?_
  rw [spread_row, row_of, spread_column, column_of]
  exact e.num p k

theorem best_at (x : FVec Ideal S20000 .f32) (f : Fin N → EReal) (hx : ∀ p : Fin N, x (ix1 p) = f p) (k : Fin N) :
    best cid x (ix1 k) = ((a.cluster k.val).sup f : EReal) := by
  unfold best
  refine (row_max _ _ neg_first _ (by decide) k).trans ?_
  refine sup_mask _ _ _ (fun p hp => ?_) (fun p hp => ?_)
  · rw [sel, if_pos ((own_at e g k p).mpr hp), spread_row, row_of]
    exact hx p
  · rw [sel, if_neg fun h => hp ((own_at e g k p).mp h)]
    exact (word_at _ _ _ _).trans Args.minus_inf

theorem inUse_pos (x : FVec Ideal S20000 .f32) (w : BitVec 32) (k : Fin N) (hk : k.val < a.clusters) :
    inUse K x w (ix1 k) = x (ix1 k) := by
  unfold inUse; rw [sel, if_pos ((valid_at e g k).mpr hk)]

theorem inUse_neg (x : FVec Ideal S20000 .f32) (w : BitVec 32) (k : Fin N) (hk : ¬ k.val < a.clusters) :
    inUse K x w (ix1 k) = Ideal.ofBits .f32 w := by
  unfold inUse; rw [sel, if_neg fun h => hk ((valid_at e g k).mp h)]; exact word_at _ _ _ _

theorem landing (k p : Fin N) :
    (broadcastInDim S20000x1 ![0] bcast_S20000_S20000x1_0 cid (ix2 p 0)).toInt = k.val ↔ p ∈ a.cluster k.val := by
  have hk : k.val < 20000 := k.isLt
  rw [column_of, ← e.num p k]
  constructor
  · intro h
    apply BitVec.eq_of_toInt_eq
    rw [h, toInt_ofNat (by omega)]
  · intro h; rw [h, toInt_ofNat (by omega)]

theorem sumBox_at (k : Fin N) (d : Fin 4) : (sumBox cid B sc (ix2 k d) : EReal) = a.sumCo k.val d := by
  unfold sumBox
  refine (scatter_rows _ _ _ _ k d).trans ?_
  rw [show (broadcastInDim S20000x4 ![] bcast_S_S20000x4 (constant S_ .f32 0x00000000#32 : FVec Ideal S_ .f32) (ix2 k d) : EReal) = 0
    from (spread_at _ _ _ _).trans ofBits_zero, zero_add]
  unfold Args.sumCo
  refine Finset.sum_congr (Finset.ext fun p => ?_) fun p _ => ?_
  · rw [Finset.mem_filter, landing e g k p]; simp
  · refine prod_at (e.box p d) ?_
    rw [spread_column, column_of]; exact e.score p

theorem sumSc_at (k : Fin N) : (sumSc cid sc (ix1 k) : EReal) = a.sumScore k.val := by
  unfold sumSc
  refine (scatter_entries _ _ _ _ k).trans ?_
  rw [show (broadcastInDim S20000 ![] bcast_S_S20000 (constant S_ .f32 0x00000000#32 : FVec Ideal S_ .f32) (ix1 k) : EReal) = 0
    from (spread_at _ _ _ _).trans ofBits_zero, zero_add]
  unfold Args.sumScore
  refine Finset.sum_congr (Finset.ext fun p => ?_) fun p _ => e.score p
  rw [Finset.mem_filter, landing e g k p]; simp

theorem means_at (k : Fin N) (d : Fin 4) (hk : k.val < a.clusters) :
    (means cid K B sc (ix2 k d) : EReal) = Ideal.div (a.sumCo k.val d) (a.sumScore k.val) := by
  unfold means
  refine quot_at (sumBox_at e g k d) ?_
  rw [spread_column, column_of, inUse_pos e g _ _ k hk]
  exact sumSc_at e g k

theorem top_eq (k : ℕ) (hk : k < a.clusters) : ((a.cluster k).sup fun p => a.score (a.sigma p)) = a.topScore k := by
  have hn := (nonempty_iff a.mg (Args.mg_self g)).mpr hk
  apply le_antisymm
  · refine Finset.sup_le fun p hp => ?_
    exact Args.sigma_score (head_le ((mem_group a.mg).mp hp).1)
  · exact Finset.le_sup (f := fun p => a.score (a.sigma p)) (head_mem_group a.mg (Args.mg_self g) hn)

theorem clScore_pos (k : Fin N) (hk : k.val < a.clusters) : (clScore cid K sc (ix1 k) : EReal) = a.topScore k.val := by
  unfold clScore
  rw [inUse_pos e g _ _ k hk]
  exact (best_at e g sc _ e.score k).trans (top_eq e g k.val hk)

theorem clScore_neg (k : Fin N) (hk : ¬ k.val < a.clusters) : (clScore cid K sc (ix1 k) : EReal) = -1 := by
  unfold clScore
  rw [inUse_neg e g _ _ k hk]; exact Args.minus_one

theorem clLab_pos (k : Fin N) (hk : k.val < a.clusters) : (clLab cid K lb (ix1 k) : EReal) = a.maxLab k.val := by
  unfold clLab
  rw [inUse_pos e g _ _ k hk]
  exact best_at e g lb _ e.lab k

/-- The cluster scores fall with the cluster number. -/
theorem clScore_anti {j k : Fin N} (h : j ≤ k) : (clScore cid K sc (ix1 k) : EReal) ≤ clScore cid K sc (ix1 j) := by
  have h' : j.val ≤ k.val := h
  by_cases hk : k.val < a.clusters
  · rw [clScore_pos e g k hk, clScore_pos e g j (by omega)]
    exact Args.sigma_score (head_mono a.mg h' ((nonempty_iff a.mg (Args.mg_self g)).mpr hk))
  · rw [clScore_neg e g k hk]
    by_cases hj : j.val < a.clusters
    · rw [clScore_pos e g j hj]
      refine le_trans ?_ (g.score_nonneg _)
      rw [EReal.neg_le, neg_zero]; exact zero_le_one
    · rw [clScore_neg e g j hj]

theorem ranks_at (l : Fin 100) : ranks (clScore cid K sc) (ix1 l) = BitVec.ofNat 32 l.val := by
  unfold ranks
  exact (slice_at _ _ l).trans (order_mono _ (fun i j h => clScore_anti e g h) (up l))

theorem rows_at (l : Fin 100) (q : Fin 1) : rows (ranks (clScore cid K sc)) (ix2 l q) = BitVec.ofNat 32 l.val := by
  have hl := l.isLt
  exact fix_at _ _ _ l q _ (by omega) (ranks_at e g l)

end Post

section Results

variable {a : Args} {cid : IVec S20000 32} {K : IVec S_ 32} {B : FVec Ideal S20000x4 .f32}
  {sc lb : FVec Ideal S20000 .f32} {sh : FVec Ideal S_ .f32} (e : Ends a cid K B sc lb sh) (g : a.Good)
include e g

theorem at100_at (x : FVec Ideal S20000 .f32) (l : Fin 100) : at100 x (rows (ranks (clScore cid K sc))) (ix1 l) = x (ix1 (up l)) :=
  Routing.gather_take1 gather_S20000_S100x1_S100_n_0_n_n_0_1_1 rfl rfl rfl rfl x _ l (up l) (rows_at e g l 0) (by norm_num)

theorem valid100_at (l : Fin 100) : valid100 K (rows (ranks (clScore cid K sc))) (ix1 l) = 1#1 ↔ l.val < a.clusters := by
  rw [show valid100 K (rows (ranks (clScore cid K sc))) (ix1 l) = valid K (ix1 (up l)) from
    Routing.gather_take1 gather_S20000_S100x1_S100_n_0_n_n_0_1_1 rfl rfl rfl rfl (valid K) _ l (up l) (rows_at e g l 0)
      (by norm_num)]
  exact valid_at e g (up l)

theorem resScore_eq : resScore cid K sc = Out.scores a := by
  funext j
  obtain ⟨l, rfl⟩ : ∃ l : Fin 100, j = ix1 l := ⟨j 0, eq_ix1 j⟩
  show _ = a.outScore l.val
  unfold resScore Args.outScore
  rw [sel]
  by_cases h : l.val < a.clusters
  · rw [if_pos ((valid100_at e g l).mpr h), if_pos h, at100_at e g]
    exact clScore_pos e g (up l) h
  · rw [if_neg fun h' => h ((valid100_at e g l).mp h'), if_neg h]
    exact (word_at _ _ _ _).trans ofBits_zero

theorem resLab_eq : resLab cid K sc lb = Out.labels a := by
  funext j
  obtain ⟨l, rfl⟩ : ∃ l : Fin 100, j = ix1 l := ⟨j 0, eq_ix1 j⟩
  show _ = a.outLab l.val
  unfold resLab Args.outLab
  rw [sel]
  by_cases h : l.val < a.clusters
  · rw [if_pos ((valid100_at e g l).mpr h), if_pos h, at100_at e g]
    exact clLab_pos e g (up l) h
  · rw [if_neg fun h' => h ((valid100_at e g l).mp h'), if_neg h]
    exact (word_at _ _ _ _).trans Args.minus_one

theorem resBox_eq : resBox cid K B sc lb sh = Out.boxes a := by
  funext j
  obtain ⟨l, d, rfl⟩ : ∃ (l : Fin 100) (d : Fin 4), j = ix2 l d := ⟨j 0, j 1, eq_ix2 j⟩
  show _ = a.outBox l.val d
  unfold resBox Args.outBox
  rw [sel, spread_column, column_of]
  by_cases h : l.val < a.clusters
  · rw [if_pos ((valid100_at e g l).mpr h), if_pos h]
    refine diff_at ?_ ?_
    · exact (Routing.gather_row gather_S20000x4_S100x1_S100x4_1_0_n_n_0_1_14 rfl rfl rfl rfl rfl (means cid K B sc) _ l d
        (up l) (rows_at e g l 0) (by norm_num)).trans (means_at e g (up l) d h)
    · rw [spread_column]
      refine prod_at ?_ ((spread_at _ _ _ _).trans e.shift)
      rw [column_of, at100_at e g]
      exact clLab_pos e g (up l) h
  · rw [if_neg fun h' => h ((valid100_at e g l).mp h'), if_neg h]
    exact (word_at _ _ _ _).trans ofBits_zero

end Results

end Cert.Proof.RV
-- ==== Proof.RV.Result.lean ====
/-
The reference's three results: the loop's last state gives the clusters, and the lines after it the boxes, scores and
labels of the specification.
-/
module

public import proofs.«01_k».proof.Proof.RV.Post
public import proofs.«01_k».proof.Proof.RI.Run

@[expose] public section

noncomputable section

namespace Cert.Proof.RV

open Cert.ReferenceIdeal Cert.ReferenceIdeal.Gen Cert.ReferenceIdeal.Value
open Cert.Proof.Words Cert.Proof.Spec Cert.Proof.Greedy Cert.Proof.Sorted Cert.Proof.Shapes Cert.Proof.Entry
open Idealize.ShloMosaic Idealize.ShloMosaic.TcCoe Idealize.ShloMosaic.Tactic Idealize.ShloMosaic.StableHlo
open Idealize.SL.Sem

/-! ## The lines after the loop -/

section Read

variable (V : Valuation τ sig (Elt Ideal))

/-- The contents after the sums and maxima, after the cluster scores' order, and at the end. -/
abbrev sums : Valuation τ sig (Elt Ideal) :=
  after hostOps0_7 (after hostOps0_6 (after hostOps0_5 (after hostOps0_4 (after hostOps0_3 V))))
abbrev ordered : Valuation τ sig (Elt Ideal) :=
  after hostOps0_14 (after hostOps0_13 (after hostOps0_12 (after hostOps0_11 (after hostOps0_10 (after hostOps0_9
    (after hostOps0_8 V))))))
abbrev behind : Valuation τ sig (Elt Ideal) :=
  after hostOps0_20 (after hostOps0_19 (after hostOps0_18 (after hostOps0_17 (after hostOps0_16 (after hostOps0_15 V)))))

theorem sums_v47 : sums V (Proc.devRef .tc main_v47)
    = valid (V (Proc.devRef .tc main_v44_8)) := by
  unfold_abbrev_sides
  after_reads_simp
  rfl

theorem sums_v53 : sums V (Proc.devRef .tc main_v53)
    = sumBox (V (Proc.devRef .tc main_v44_7)) (V (Proc.devRef .tc main_v16)) (V (Proc.devRef .tc main_v23)) := by
  unfold_abbrev_sides
  after_reads_simp
  rfl

theorem sums_v56 : sums V (Proc.devRef .tc main_v56)
    = sumSc (V (Proc.devRef .tc main_v44_7)) (V (Proc.devRef .tc main_v23)) := by
  unfold_abbrev_sides
  after_reads_simp
  rfl

theorem sums_v65 : sums V (Proc.devRef .tc main_v65)
    = best (V (Proc.devRef .tc main_v44_7)) (V (Proc.devRef .tc main_v23)) := by
  unfold_abbrev_sides
  after_reads_simp
  rfl

theorem sums_v68 : sums V (Proc.devRef .tc main_v68)
    = best (V (Proc.devRef .tc main_v44_7)) (V (Proc.devRef .tc main_v30)) := by
  unfold_abbrev_sides
  after_reads_simp
  rfl

theorem sums_cst_16 : sums V (Proc.devRef .tc main_cst_16)
    = (constant S_ .f32 0x00000000#32 : FVec Ideal S_ .f32) := by
  unfold_abbrev_sides
  after_reads_simp

theorem sums_v2 : sums V (Proc.devRef .tc main_v2)
    = V (Proc.devRef .tc main_v2) := by
  unfold_abbrev_sides
  after_reads_simp

theorem ordered_v69 : ordered V (Proc.devRef .tc main_v69)
    = (select (V (Proc.devRef .tc main_v47) : IVec S20000 1) (V (Proc.devRef .tc main_v68)) (broadcastInDim S20000 ![] bcast_S_S20000 (id (V (Proc.devRef .tc main_cst_16)))) : FVec Ideal S20000 .f32) := by
  unfold_abbrev_sides
  after_reads_simp
  rfl

theorem ordered_v73 : ordered V (Proc.devRef .tc main_v73)
    = (Host.divf (V (Proc.devRef .tc main_v53) : FVec Ideal S20000x4 .f32) (broadcastInDim S20000x4 ![0, 1] bcast_S20000x1_S20000x4_0_1
      (broadcastInDim S20000x1 ![0] bcast_S20000_S20000x1_0
        (select (V (Proc.devRef .tc main_v47) : IVec S20000 1) (V (Proc.devRef .tc main_v56)) (broadcastInDim S20000 ![] bcast_S_S20000 (id (constant S_ .f32 0x3F800000#32))) : FVec Ideal S20000 .f32))) : FVec Ideal S20000x4 .f32) := by
  unfold_abbrev_sides
  after_reads_simp
  rfl

theorem ordered_v74 : ordered V (Proc.devRef .tc main_v74)
    = (select (V (Proc.devRef .tc main_v47) : IVec S20000 1) (V (Proc.devRef .tc main_v65)) (broadcastInDim S20000 ![] bcast_S_S20000 (id (constant S_ .f32 0xBF800000#32))) : FVec Ideal S20000 .f32) := by
  unfold_abbrev_sides
  after_reads_simp
  rfl

theorem ordered_v76 : ordered V (Proc.devRef .tc main_v76)
    = ((Host.sort2 S20000 0 comparator_f32_i32_d0
      (Host.negf (select (V (Proc.devRef .tc main_v47) : IVec S20000 1) (V (Proc.devRef .tc main_v65)) (broadcastInDim S20000 ![] bcast_S_S20000 (id (constant S_ .f32 0xBF800000#32))) : FVec Ideal S20000 .f32))
      (iotaInDim S20000 32 0)).2 : IVec S20000 32) := by
  unfold_abbrev_sides
  after_reads_simp
  rfl

theorem ordered_v47 : ordered V (Proc.devRef .tc main_v47)
    = V (Proc.devRef .tc main_v47) := by
  unfold_abbrev_sides
  after_reads_simp

theorem ordered_v2 : ordered V (Proc.devRef .tc main_v2)
    = V (Proc.devRef .tc main_v2) := by
  unfold_abbrev_sides
  after_reads_simp

theorem behind_v105 : behind V (Proc.devRef .tc main_v105)
    = (select (broadcastInDim S100x4 ![0, 1] bcast_S100x1_S100x4_0_1 (broadcastInDim S100x1 ![0] bcast_S100_S100x1_0
        (Host.gather gather_S20000_S100x1_S100_n_0_n_n_0_1_1 (V (Proc.devRef .tc main_v47) : IVec S20000 1) (rows (extractStridedSlice S100 ![0] (V (Proc.devRef .tc main_v76) : IVec S20000 32) slices_S20000_S100_0)))))
      (subf (Host.gather gather_S20000x4_S100x1_S100x4_1_0_n_n_0_1_14 (V (Proc.devRef .tc main_v73) : FVec Ideal S20000x4 .f32) (rows (extractStridedSlice S100 ![0] (V (Proc.devRef .tc main_v76) : IVec S20000 32) slices_S20000_S100_0)))
        (broadcastInDim S100x4 ![0, 1] bcast_S100x1_S100x4_0_1
          (mulf (broadcastInDim S100x1 ![0] bcast_S100_S100x1_0 (Host.gather gather_S20000_S100x1_S100_n_0_n_n_0_1_1 (V (Proc.devRef .tc main_v69) : FVec Ideal S20000 .f32) (rows (extractStridedSlice S100 ![0] (V (Proc.devRef .tc main_v76) : IVec S20000 32) slices_S20000_S100_0))))
            (broadcastInDim S100x1 ![] bcast_S_S100x1 (V (Proc.devRef .tc main_v2) : FVec Ideal S_ .f32)))))
      (broadcastInDim S100x4 ![] bcast_S_S100x4 (id (constant S_ .f32 0x00000000#32))) : FVec Ideal S100x4 .f32) := by
  unfold_abbrev_sides
  after_reads_simp
  rfl

theorem behind_v113 : behind V (Proc.devRef .tc main_v113)
    = (select (Host.gather gather_S20000_S100x1_S100_n_0_n_n_0_1_1 (V (Proc.devRef .tc main_v47) : IVec S20000 1) (rows (extractStridedSlice S100 ![0] (V (Proc.devRef .tc main_v76) : IVec S20000 32) slices_S20000_S100_0)))
      (Host.gather gather_S20000_S100x1_S100_n_0_n_n_0_1_1 (V (Proc.devRef .tc main_v74) : FVec Ideal S20000 .f32) (rows (extractStridedSlice S100 ![0] (V (Proc.devRef .tc main_v76) : IVec S20000 32) slices_S20000_S100_0)))
      (broadcastInDim S100 ![] bcast_S_S100 (id (constant S_ .f32 0x00000000#32))) : FVec Ideal S100 .f32) := by
  unfold_abbrev_sides
  after_reads_simp
  rfl

theorem behind_v121 : behind V (Proc.devRef .tc main_v121)
    = (select (Host.gather gather_S20000_S100x1_S100_n_0_n_n_0_1_1 (V (Proc.devRef .tc main_v47) : IVec S20000 1) (rows (extractStridedSlice S100 ![0] (V (Proc.devRef .tc main_v76) : IVec S20000 32) slices_S20000_S100_0)))
      (Host.gather gather_S20000_S100x1_S100_n_0_n_n_0_1_1 (V (Proc.devRef .tc main_v69) : FVec Ideal S20000 .f32) (rows (extractStridedSlice S100 ![0] (V (Proc.devRef .tc main_v76) : IVec S20000 32) slices_S20000_S100_0)))
      (broadcastInDim S100 ![] bcast_S_S100 (id (constant S_ .f32 0xBF800000#32))) : FVec Ideal S100 .f32) := by
  unfold_abbrev_sides
  after_reads_simp
  rfl

/-- The three results from the loop's last contents. -/
theorem read_v105 : behind (ordered (sums V)) (Proc.devRef .tc main_v105) = resBox (V (Proc.devRef .tc main_v44_7)) (V (Proc.devRef .tc main_v44_8)) (V (Proc.devRef .tc main_v16)) (V (Proc.devRef .tc main_v23)) (V (Proc.devRef .tc main_v30))
    (V (Proc.devRef .tc main_v2)) := by
  rw [behind_v105, ordered_v47, ordered_v76, ordered_v73, ordered_v69, ordered_v2, sums_v47, sums_v65, sums_v53, sums_v56,
    sums_v68, sums_cst_16, sums_v2]
  rfl

theorem read_v113 : behind (ordered (sums V)) (Proc.devRef .tc main_v113) = resScore (V (Proc.devRef .tc main_v44_7)) (V (Proc.devRef .tc main_v44_8)) (V (Proc.devRef .tc main_v23)) := by
  rw [behind_v113, ordered_v47, ordered_v76, ordered_v74, sums_v47, sums_v65]
  rfl

theorem read_v121 : behind (ordered (sums V)) (Proc.devRef .tc main_v121) = resLab (V (Proc.devRef .tc main_v44_7)) (V (Proc.devRef .tc main_v44_8)) (V (Proc.devRef .tc main_v23)) (V (Proc.devRef .tc main_v30)) := by
  rw [behind_v121, ordered_v47, ordered_v76, ordered_v69, sums_v47, sums_v65, sums_v68, sums_cst_16]
  rfl

end Read

/-! ## The run -/

/-- What the last state says of the cluster numbers and their count. -/
theorem State.ends {a : Args} {V : Valuation τ sig (Elt Ideal)} (s : State a N V) (g : a.Good)
    {B : FVec Ideal S20000x4 .f32} {sc lb : FVec Ideal S20000 .f32} {sh : FVec Ideal S_ .f32}
    (hB : ∀ (p : Fin N) (d : Fin 4), B (ix2 p d) = a.co d (a.sigma p)) (hs : ∀ p : Fin N, sc (ix1 p) = a.score (a.sigma p))
    (hl : ∀ p : Fin N, lb (ix1 p) = a.lab (a.sigma p)) (hh : sh (Shape.Idx.first h_S_) = a.shift) :
    Ends a (V (Proc.devRef .tc main_v44_7)) (V (Proc.devRef .tc main_v44_8)) B sc lb sh := by
  refine ⟨fun p k => ⟨fun h => ?_, fun h => s.num p k.val k.isLt h⟩, ?_, hB, hs, hl, hh⟩
  · have hp : p ∉ opened a.mg N := by
      rw [opened_last a.mg (Args.mg_self g)]
      simp
    obtain ⟨j, hj, hg⟩ := exists_group a.mg hp
    have e : j = k.val := (ofNat_inj (by have : j < 20000 := hj; omega) (by have := k.isLt; have : k.val < 20000 := this; omega)).mp
      ((s.num p j hj hg).symm.trans h)
    exact e ▸ hg
  · refine s.count.trans ?_
    rw [min_eq_right (steps_le a.mg (Args.mg_self g))]
    rfl

variable (m : (ℓ : Loc nD τ sig) → Buf (Elt Ideal) ℓ) (ρ : Dev nD → PrngReg) (c : Dev nD)

/-- The reference's arguments on one chip. -/
def args : Args := argsOf (m (c.tc.loc main_arg0)) (m (c.tc.loc main_arg1)) (m (c.tc.loc main_arg2))

/-- The contents the lines after the loop start from. -/
abbrev looped : Valuation τ sig (Elt Ideal) := after condOps (atTrip condOps bodyI (entryContents preI m) 20000 c)

/-- A buffer neither the condition nor the body writes is there as the lines before the loop left it. -/
theorem looped_keep (r : Ref sig .tc) (hb : r ∉ RI.bodyW) (hc : r ∉ condOps_W) :
    looped m c (Proc.devRef .tc r) = before (launchContents m c) (Proc.devRef .tc r) := by
  refine (after_of_writes_sub _ _ condOps_writes hc).trans ?_
  exact RI.loop_keep m c r hb hc 20000

/-- The loop's last state. -/
theorem looped_state (g : (args m c).Good) : State (args m c) N (looped m c) := by
  have h : State (args m c) N (atK m 20000 c) :=
    State.congr (State.steps (start (launchContents m c)) (Args.mg_self g) N) (atK_agree m c 20000)
  refine State.congr h ?_
  intro j hj
  refine after_of_writes_sub _ _ condOps_writes ?_
  revert j
  decide

theorem looped_ends (g : (args m c).Good) : Ends (args m c) (looped m c (Proc.devRef .tc main_v44_7))
    (looped m c (Proc.devRef .tc main_v44_8)) (looped m c (Proc.devRef .tc main_v16)) (looped m c (Proc.devRef .tc main_v23))
    (looped m c (Proc.devRef .tc main_v30)) (looped m c (Proc.devRef .tc main_v2)) := by
  refine (looped_state m c g).ends g ?_ ?_ ?_ ?_
  · rw [looped_keep m c main_v16 (by decide) (by decide), pre_v16]
    exact fun p d => coSort_at _ _ _ p d
  · rw [looped_keep m c main_v23 (by decide) (by decide), pre_v23]
    exact fun p => scSort_at _ _ _ p
  · rw [looped_keep m c main_v30 (by decide) (by decide), pre_v30]
    exact fun p => labSort_at _ _ _ p
  · rw [looped_keep m c main_v2 (by decide) (by decide), pre_v2]
    exact shiftArr_at _ _ _ _

/-- A run of the reference ends with the specification's boxes, scores and labels, and its arguments as they were. -/
theorem value (g : ∀ c, (args m c).Good) :
    θ_run (defs (F := Ideal)) (onTc (τ := τ) (main (F := Ideal))) ⟨m, fun _ => 0, ρ⟩ (fun r => ∀ c : Dev nD,
      r.2.mem (c.tc.loc main_v105) = Out.boxes (args m c) ∧ r.2.mem (c.tc.loc main_v113) = Out.scores (args m c)
      ∧ r.2.mem (c.tc.loc main_v121) = Out.labels (args m c)
      ∧ r.2.mem (c.tc.loc main_arg0) = m (c.tc.loc main_arg0) ∧ r.2.mem (c.tc.loc main_arg1) = m (c.tc.loc main_arg1)
      ∧ r.2.mem (c.tc.loc main_arg2) = m (c.tc.loc main_arg2)) :=
  (θ_run defs _ _).mono (fun _ h c =>
    ⟨(h.1 c main_v105 rfl).trans ((read_v105 (looped m c)).trans (resBox_eq (looped_ends m c (g c)) (g c))),
     (h.1 c main_v113 rfl).trans ((read_v113 (looped m c)).trans (resScore_eq (looped_ends m c (g c)) (g c))),
     (h.1 c main_v121 rfl).trans ((read_v121 (looped m c)).trans (resLab_eq (looped_ends m c (g c)) (g c))),
     (h.1 c main_arg0 rfl).trans (RI.final_keep m c main_arg0 (by decide) (by decide) (by decide) (by decide)),
     (h.1 c main_arg1 rfl).trans (RI.final_keep m c main_arg1 (by decide) (by decide) (by decide) (by decide)),
     (h.1 c main_arg2 rfl).trans (RI.final_keep m c main_arg2 (by decide) (by decide) (by decide) (by decide))⟩)
    (RI.run_main m ρ)

end Cert.Proof.RV
-- ==== Proof.lean ====
/-
The proof of `Cert.Claim`: the quiescent frames, the kernel's idealization keeping its text, and the three results equal
to the reference's: both sides end with the specification's boxes, scores and labels of the same arguments.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.Pre_pre
public import proofs.«01_k».proof.Proof.P.Run
public import proofs.«01_k».proof.Proof.PI.Run
public import proofs.«01_k».proof.Proof.RI.Run
public import proofs.«01_k».proof.Proof.KI.Result
public import proofs.«01_k».proof.Proof.RV.Result
public import Idealize.ShloMosaic.Init

@[expose] public section

noncomputable section

/-- The three results of the kernel and of the reference are the specification's. -/
theorem Cert.Proof.algebraic :
    Cert.algebraic_KernelIdeal_ReferenceIdeal_pre_pre (hKernelIdeal := Cert.KernelIdeal.Gen.facts)
      (hReferenceIdeal := Cert.ReferenceIdeal.Gen.facts) (hPre_pre := Cert.Pre_pre.Gen.facts) := by
  intro m g m' g' hpre hargs
  have good : ∀ c, (Cert.Proof.KI.args m c).Good := fun c => Cert.Proof.Entry.good_of _ _ _ (hpre c)
  have same : ∀ c, Cert.Proof.RV.args m' c = Cert.Proof.KI.args m c := by
    intro c
    unfold Cert.Proof.RV.args Cert.Proof.KI.args
    rw [(hargs c).1, (hargs c).2.1, (hargs c).2.2]
  refine ⟨fun c => Cert.Proof.Out.boxes (Cert.Proof.KI.args m c), fun c => Cert.Proof.Out.scores (Cert.Proof.KI.args m c),
    fun c => Cert.Proof.Out.labels (Cert.Proof.KI.args m c), Cert.Proof.KI.value m g good, ?_⟩
  have h := Cert.Proof.RV.value m' g' (fun c => (same c).symm ▸ good c)
  simp only [same] at h
  exact h

/-- Everything the certificate claims. -/
theorem Cert.Proof.claim : Cert.Claim :=
  ⟨Cert.Kernel.Gen.facts, Cert.KernelIdeal.Gen.facts, Cert.ReferenceIdeal.Gen.facts, Cert.Pre_pre.Gen.facts,
    fun m g _ => Cert.Proof.P.frame m g, fun m g _ => Cert.Proof.PI.frame m g, fun m g _ => Cert.Proof.PI.frame m g,
    fun m g _ => Cert.Proof.RI.frame m g, fun m g _ => Cert.Proof.RI.frame m g, trivial, Cert.Proof.algebraic⟩
